-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x3 : Shape := ⟨2, ![10000, 3]⟩
abbrev S5000 : Shape := ⟨1, ![5000]⟩
abbrev S_ : Shape := ⟨0, ![]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel

variable [Facts]

def fn {F : FTy → Type} [FloatOps F] (main_arg0 : FVec F S10000x3 .f32) (main_arg1 : IVec S5000 32) : IVec S_ 1 :=
  let main_v0 : FVec F S10000x3 .f32 := Host.absf main_arg0
  let main_cst : FVec F S_ .f32 := constant S_ .f32 0x46C35000#32
  let main_v1 : FVec F S10000x3 .f32 := broadcastInDim S10000x3 ![] bcast_S_S10000x3 main_cst
  let main_v2 : IVec S10000x3 1 := cmpf .ole main_v0 main_v1
  let main_c : IVec S_ 1 := constantI S_ 1 1#1
  let main_v3 : IVec S_ 1 := (fun x v => Host.reduce IntOp.andi x v reducesTo_S10000x3_S_d0_1 h_S_) main_v2 main_c
  main_v3
-- ==== Kernel.lean ====
abbrev S10000x3 : Shape := ⟨2, ![10000, 3]⟩
abbrev S5000 : Shape := ⟨1, ![5000]⟩
abbrev S_ : Shape := ⟨0, ![]⟩
abbrev S5000x1 : Shape := ⟨2, ![5000, 1]⟩
abbrev S5000x3 : Shape := ⟨2, ![5000, 3]⟩
abbrev S5120x3 : Shape := ⟨2, ![5120, 3]⟩
abbrev S3x5120 : Shape := ⟨2, ![3, 5120]⟩
abbrev S50x5120 : Shape := ⟨2, ![50, 5120]⟩
abbrev S50x5x5120 : Shape := ⟨3, ![50, 5, 5120]⟩
abbrev S3x128 : Shape := ⟨2, ![3, 128]⟩
abbrev S50x128 : Shape := ⟨2, ![50, 128]⟩
abbrev S50x5x128 : Shape := ⟨3, ![50, 5, 128]⟩
abbrev S5120 : Shape := ⟨1, ![5120]⟩
abbrev S5120x1 : Shape := ⟨2, ![5120, 1]⟩
abbrev S128 : Shape := ⟨1, ![128]⟩
abbrev S1x128 : Shape := ⟨2, ![1, 128]⟩
abbrev S5120x128 : Shape := ⟨2, ![5120, 128]⟩
abbrev S5000x128 : Shape := ⟨2, ![5000, 128]⟩
abbrev S120x128 : Shape := ⟨2, ![120, 128]⟩
abbrev S40x128x128 : Shape := ⟨3, ![40, 128, 128]⟩
abbrev S1x1x128 : Shape := ⟨3, ![1, 1, 128]⟩
abbrev S40x128 : Shape := ⟨2, ![40, 128]⟩
abbrev S40x1x128 : Shape := ⟨3, ![40, 1, 128]⟩
abbrev S320x128 : Shape := ⟨2, ![320, 128]⟩
abbrev S1 : Shape := ⟨1, ![1]⟩
abbrev S1x1x1 : Shape := ⟨3, ![1, 1, 1]⟩
abbrev S1x5x1 : Shape := ⟨3, ![1, 5, 1]⟩
abbrev S50x1x128 : Shape := ⟨3, ![50, 1, 128]⟩
abbrev S50x5000 : Shape := ⟨2, ![50, 5000]⟩
abbrev S5000x50 : Shape := ⟨2, ![5000, 50]⟩
abbrev S250000 : Shape := ⟨1, ![250000]⟩
abbrev S500000 : Shape := ⟨1, ![500000]⟩
abbrev S1x500000 : Shape := ⟨2, ![1, 500000]⟩
abbrev S2x500000 : Shape := ⟨2, ![2, 500000]⟩
abbrev S50x5x5000 : Shape := ⟨3, ![50, 5, 5000]⟩
abbrev S5000x50x5 : Shape := ⟨3, ![5000, 50, 5]⟩
abbrev S250000x5 : Shape := ⟨2, ![250000, 5]⟩
abbrev S500000x5 : Shape := ⟨2, ![500000, 5]⟩

abbrev nBuf : Space → Nat
  | .hbm => 32
  | .vmem => 7
  | .smem => 0
  | _ => 0

abbrev bufTy : (tb : Table) → Fin (tcTables nBuf tb) → BufTy
  | .hbm, ⟨0, _⟩ => ⟨S10000x3, .f32⟩
  | .hbm, ⟨1, _⟩ => ⟨S5000, .i32⟩
  | .hbm, ⟨2, _⟩ => ⟨S_, .i32⟩
  | .hbm, ⟨3, _⟩ => ⟨S5000, .i32⟩
  | .hbm, ⟨4, _⟩ => ⟨S5000, .i1⟩
  | .hbm, ⟨5, _⟩ => ⟨S_, .i32⟩
  | .hbm, ⟨6, _⟩ => ⟨S5000, .i32⟩
  | .hbm, ⟨7, _⟩ => ⟨S5000, .i32⟩
  | .hbm, ⟨8, _⟩ => ⟨S5000, .i32⟩
  | .hbm, ⟨9, _⟩ => ⟨S5000x1, .i32⟩
  | .hbm, ⟨10, _⟩ => ⟨S5000x3, .f32⟩
  | .hbm, ⟨11, _⟩ => ⟨S_, .i32⟩
  | .hbm, ⟨12, _⟩ => ⟨S_, .f32⟩
  | .hbm, ⟨13, _⟩ => ⟨S5120x3, .f32⟩
  | .hbm, ⟨14, _⟩ => ⟨S3x5120, .f32⟩
  | .hbm, ⟨15, _⟩ => ⟨S50x5120, .i32⟩
  | .hbm, ⟨16, _⟩ => ⟨S50x5x5120, .f32⟩
  | .hbm, ⟨17, _⟩ => ⟨S50x5000, .i32⟩
  | .hbm, ⟨18, _⟩ => ⟨S5000x50, .i32⟩
  | .hbm, ⟨19, _⟩ => ⟨S250000, .i32⟩
  | .hbm, ⟨20, _⟩ => ⟨S5000, .i32⟩
  | .hbm, ⟨21, _⟩ => ⟨S5000x50, .i32⟩
  | .hbm, ⟨22, _⟩ => ⟨S250000, .i32⟩
  | .hbm, ⟨23, _⟩ => ⟨S500000, .i32⟩
  | .hbm, ⟨24, _⟩ => ⟨S500000, .i32⟩
  | .hbm, ⟨25, _⟩ => ⟨S1x500000, .i32⟩
  | .hbm, ⟨26, _⟩ => ⟨S1x500000, .i32⟩
  | .hbm, ⟨27, _⟩ => ⟨S2x500000, .i32⟩
  | .hbm, ⟨28, _⟩ => ⟨S50x5x5000, .f32⟩
  | .hbm, ⟨29, _⟩ => ⟨S5000x50x5, .f32⟩
  | .hbm, ⟨30, _⟩ => ⟨S250000x5, .f32⟩
  | .hbm, ⟨31, _⟩ => ⟨S500000x5, .f32⟩
  | .local _ .vmem, ⟨0, _⟩ => ⟨S5120x3, .f32⟩
  | .local _ .vmem, ⟨1, _⟩ => ⟨S3x128, .f32⟩
  | .local _ .vmem, ⟨2, _⟩ => ⟨S3x128, .f32⟩
  | .local _ .vmem, ⟨3, _⟩ => ⟨S50x128, .i32⟩
  | .local _ .vmem, ⟨4, _⟩ => ⟨S50x128, .i32⟩
  | .local _ .vmem, ⟨5, _⟩ => ⟨S50x5x128, .f32⟩
  | .local _ .vmem, ⟨6, _⟩ => ⟨S50x5x128, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_260 : BitVec 32 := 0#32
  let c50_i32 : BitVec 32 := 50#32
  let v775 : BitVec 32 := Scalar.addi c0_i32_260 c50_i32
  let c1_i32 : BitVec 32 := 1#32
  ⟨c0_i32_260, v775, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S5120x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S50x5x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S10000x3 : Shape := ⟨2, ![10000, 3]⟩
abbrev S5000 : Shape := ⟨1, ![5000]⟩
abbrev S_ : Shape := ⟨0, ![]⟩
abbrev S5000x1 : Shape := ⟨2, ![5000, 1]⟩
abbrev S5000x3 : Shape := ⟨2, ![5000, 3]⟩
abbrev S1x5000 : Shape := ⟨2, ![1, 5000]⟩
abbrev S5000x5000 : Shape := ⟨2, ![5000, 5000]⟩
abbrev S3x5000 : Shape := ⟨2, ![3, 5000]⟩
abbrev S5000x50 : Shape := ⟨2, ![5000, 50]⟩
abbrev S250000 : Shape := ⟨1, ![250000]⟩
abbrev S500000 : Shape := ⟨1, ![500000]⟩
abbrev S1x500000 : Shape := ⟨2, ![1, 500000]⟩
abbrev S2x500000 : Shape := ⟨2, ![2, 500000]⟩
abbrev S500000x1 : Shape := ⟨2, ![500000, 1]⟩
abbrev S500000x3 : Shape := ⟨2, ![500000, 3]⟩
abbrev S4 : Shape := ⟨1, ![4]⟩
abbrev S1 : Shape := ⟨1, ![1]⟩
abbrev S5 : Shape := ⟨1, ![5]⟩
abbrev S1x5 : Shape := ⟨2, ![1, 5]⟩
abbrev S500000x5 : Shape := ⟨2, ![500000, 5]⟩

abbrev nBuf : Space → Nat
  | .hbm => 115
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S5000, .i32⟩
  | .hbm, ⟨2, _⟩ => ⟨S_, .i32⟩
  | .hbm, ⟨3, _⟩ => ⟨S5000, .i32⟩
  | .hbm, ⟨4, _⟩ => ⟨S5000, .i1⟩
  | .hbm, ⟨5, _⟩ => ⟨S_, .i32⟩
  | .hbm, ⟨6, _⟩ => ⟨S5000, .i32⟩
  | .hbm, ⟨7, _⟩ => ⟨S5000, .i32⟩
  | .hbm, ⟨8, _⟩ => ⟨S5000, .i32⟩
  | .hbm, ⟨9, _⟩ => ⟨S5000x1, .i32⟩
  | .hbm, ⟨10, _⟩ => ⟨S5000x3, .f32⟩
  | .hbm, ⟨11, _⟩ => ⟨S5000x3, .f32⟩
  | .hbm, ⟨12, _⟩ => ⟨S_, .f32⟩
  | .hbm, ⟨13, _⟩ => ⟨S5000, .f32⟩
  | .hbm, ⟨14, _⟩ => ⟨S5000x1, .f32⟩
  | .hbm, ⟨15, _⟩ => ⟨S1x5000, .f32⟩
  | .hbm, ⟨16, _⟩ => ⟨S5000x5000, .f32⟩
  | .hbm, ⟨17, _⟩ => ⟨S5000x5000, .f32⟩
  | .hbm, ⟨18, _⟩ => ⟨S5000x5000, .f32⟩
  | .hbm, ⟨19, _⟩ => ⟨S3x5000, .f32⟩
  | .hbm, ⟨20, _⟩ => ⟨S5000x5000, .f32⟩
  | .hbm, ⟨21, _⟩ => ⟨S_, .f32⟩
  | .hbm, ⟨22, _⟩ => ⟨S5000x5000, .f32⟩
  | .hbm, ⟨23, _⟩ => ⟨S5000x5000, .f32⟩
  | .hbm, ⟨24, _⟩ => ⟨S5000x5000, .f32⟩
  | .hbm, ⟨25, _⟩ => ⟨S5000x5000, .i32⟩
  | .hbm, ⟨26, _⟩ => ⟨S5000x5000, .i32⟩
  | .hbm, ⟨27, _⟩ => ⟨S_, .i32⟩
  | .hbm, ⟨28, _⟩ => ⟨S5000x5000, .i32⟩
  | .hbm, ⟨29, _⟩ => ⟨S5000x5000, .i32⟩
  | .hbm, ⟨30, _⟩ => ⟨S5000x5000, .i1⟩
  | .hbm, ⟨31, _⟩ => ⟨S5000x5000, .f32⟩
  | .hbm, ⟨32, _⟩ => ⟨S_, .f32⟩
  | .hbm, ⟨33, _⟩ => ⟨S5000x5000, .f32⟩
  | .hbm, ⟨34, _⟩ => ⟨S5000x5000, .f32⟩
  | .hbm, ⟨35, _⟩ => ⟨S5000x5000, .f32⟩
  | .hbm, ⟨36, _⟩ => ⟨S5000x5000, .f32⟩
  | .hbm, ⟨37, _⟩ => ⟨S5000x50, .f32⟩
  | .hbm, ⟨38, _⟩ => ⟨S5000x50, .i32⟩
  | .hbm, ⟨39, _⟩ => ⟨S5000, .i32⟩
  | .hbm, ⟨40, _⟩ => ⟨S5000x50, .i32⟩
  | .hbm, ⟨41, _⟩ => ⟨S250000, .i32⟩
  | .hbm, ⟨42, _⟩ => ⟨S250000, .i32⟩
  | .hbm, ⟨43, _⟩ => ⟨S500000, .i32⟩
  | .hbm, ⟨44, _⟩ => ⟨S500000, .i32⟩
  | .hbm, ⟨45, _⟩ => ⟨S1x500000, .i32⟩
  | .hbm, ⟨46, _⟩ => ⟨S1x500000, .i32⟩
  | .hbm, ⟨47, _⟩ => ⟨S2x500000, .i32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x3, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x3, .f32⟩
  | .hbm, ⟨66, _⟩ => ⟨S500000x3, .f32⟩
  | .hbm, ⟨67, _⟩ => ⟨S500000x3, .f32⟩
  | .hbm, ⟨68, _⟩ => ⟨S_, .f32⟩
  | .hbm, ⟨69, _⟩ => ⟨S500000, .f32⟩
  | .hbm, ⟨70, _⟩ => ⟨S_, .f32⟩
  | .hbm, ⟨71, _⟩ => ⟨S500000, .f32⟩
  | .hbm, ⟨72, _⟩ => ⟨S500000, .f32⟩
  | .hbm, ⟨73, _⟩ => ⟨S500000, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4, .f32⟩
  | .hbm, ⟨82, _⟩ => ⟨S_, .f32⟩
  | .hbm, ⟨83, _⟩ => ⟨S4, .f32⟩
  | .hbm, ⟨84, _⟩ => ⟨S4, .f32⟩
  | .hbm, ⟨85, _⟩ => ⟨S1, .f32⟩
  | .hbm, ⟨86, _⟩ => ⟨S_, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S1, .f32⟩
  | .hbm, ⟨92, _⟩ => ⟨S4, .f32⟩
  | .hbm, ⟨93, _⟩ => ⟨S4, .f32⟩
  | .hbm, ⟨94, _⟩ => ⟨S4, .f32⟩
  | .hbm, ⟨95, _⟩ => ⟨S1, .f32⟩
  | .hbm, ⟨96, _⟩ => ⟨S5, .f32⟩
  | .hbm, ⟨97, _⟩ => ⟨S1, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S_, .f32⟩
  | .hbm, ⟨102, _⟩ => ⟨S500000x1, .f32⟩
  | .hbm, ⟨103, _⟩ => ⟨S1x5, .f32⟩
  | .hbm, ⟨104, _⟩ => ⟨S500000x5, .f32⟩
  | .hbm, ⟨105, _⟩ => ⟨S500000x5, .f32⟩
  | .hbm, ⟨106, _⟩ => ⟨S500000x5, .f32⟩
  | .hbm, ⟨107, _⟩ => ⟨S500000x5, .f32⟩
  | .hbm, ⟨108, _⟩ => ⟨S500000x5, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S500000x5, .f32⟩
  | .hbm, ⟨113, _⟩ => ⟨S500000x5, .f32⟩
  | .hbm, ⟨114, _⟩ => ⟨S500000x5, .f32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_values : Ref sig .tc := ⟨.hbm, 37, rfl⟩
abbrev main_indices : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_cst_11 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_cst : Ref sig .tc := ⟨.hbm, 79, rfl⟩
abbrev main_call0_v3 : Ref sig .tc := ⟨.hbm, 80, rfl⟩
abbrev main_call0_v4 : Ref sig .tc := ⟨.hbm, 81, rfl⟩
abbrev main_call0_cst_0 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_v12 : Ref sig .tc := ⟨.hbm, 91, rfl⟩
abbrev main_call0_v13 : Ref sig .tc := ⟨.hbm, 92, rfl⟩
abbrev main_call0_v14 : Ref sig .tc := ⟨.hbm, 93, rfl⟩
abbrev main_call0_v15 : Ref sig .tc := ⟨.hbm, 94, rfl⟩
abbrev main_call0_v16 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_12 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩

abbrev nD : Nat := 1
abbrev τ : Topo := Topo.v7x

variable {F : FTy → Type} [FloatOps F]
-- ==== Proof.Model.lean ====
/-
  The kernel's body as a few functions of the two blocks it loads: the rounds that take the least entries of each
  chunk of 128 rows, the rounds that take the least entries of the pool, the rounds over all rows, and what is
  stored. Everything is stated at any float operations.
-/
module

public import proofs.«01_k».proof.Proof.Gen.KernelIdeal.Skeleton

@[expose] public section

set_option maxRecDepth 16384

noncomputable section

namespace Cert.Knn

open Idealize.ShloMosaic Idealize.SL.Sem Cert.KernelIdeal Cert.KernelIdeal.Gen

variable {F : FTy → Type} [FloatOps F]

/-- The f32 constant `1e30`, which stands for "no entry". -/
def big : F .f32 := Scalar.ofBits .f32 0x7149F2CA#32
/-- The f32 constant `5120`, a row number past the last. -/
def pastLast : F .f32 := Scalar.ofBits .f32 0x45A00000#32

/-! ## The rounds over the chunks -/

/-- The least entry of every chunk. -/
def cMin (v : FVec F S40x128x128 .f32) : FVec F S40x128 .f32 :=
  multiReduction .minimumf [1] S40x128 v 0x7F800000#32 reduces_S40x128x128_S40x128 (.inl rfl) rfl

/-- The least row number at which a chunk's least entry stands. -/
def cArg (c v : FVec F S40x128x128 .f32) : FVec F S40x128 .f32 :=
  cMin (select (cmpf .oeq v (broadcastTo S40x128x128 (shapeCast S40x1x128 (cMin v) shapeCasts_S40x128_S40x1x128)
    broadcasts_S40x1x128_S40x128x128)) c (broadcast S40x128x128 pastLast))

/-- The entries with each chunk's picked one overwritten. -/
def cUp (c v : FVec F S40x128x128 .f32) : FVec F S40x128x128 .f32 :=
  select (cmpf .oeq c (broadcastTo S40x128x128 (shapeCast S40x1x128 (cArg c v) shapeCasts_S40x128_S40x1x128)
    broadcasts_S40x1x128_S40x128x128)) (broadcast S40x128x128 big) v

/-- The entries after `n` rounds. -/
def cState (c v : FVec F S40x128x128 .f32) : ℕ → FVec F S40x128x128 .f32
  | 0 => v
  | n + 1 => cUp c (cState c v n)

/-- The pool's entries: what the eight rounds picked. -/
def poolV (c v : FVec F S40x128x128 .f32) : FVec F S320x128 .f32 :=
  concatenate S320x128 0 [⟨S40x128, cMin (cState c v 0)⟩, ⟨S40x128, cMin (cState c v 1)⟩, ⟨S40x128, cMin (cState c v 2)⟩,
    ⟨S40x128, cMin (cState c v 3)⟩, ⟨S40x128, cMin (cState c v 4)⟩, ⟨S40x128, cMin (cState c v 5)⟩,
    ⟨S40x128, cMin (cState c v 6)⟩, ⟨S40x128, cMin (cState c v 7)⟩]
    concatenates_S40x128_S40x128_S40x128_S40x128_S40x128_S40x128_S40x128_S40x128_S320x128_d0

/-- The pool's row numbers. -/
def poolC (c v : FVec F S40x128x128 .f32) : FVec F S320x128 .f32 :=
  concatenate S320x128 0 [⟨S40x128, cArg c (cState c v 0)⟩, ⟨S40x128, cArg c (cState c v 1)⟩, ⟨S40x128, cArg c (cState c v 2)⟩,
    ⟨S40x128, cArg c (cState c v 3)⟩, ⟨S40x128, cArg c (cState c v 4)⟩, ⟨S40x128, cArg c (cState c v 5)⟩,
    ⟨S40x128, cArg c (cState c v 6)⟩, ⟨S40x128, cArg c (cState c v 7)⟩]
    concatenates_S40x128_S40x128_S40x128_S40x128_S40x128_S40x128_S40x128_S40x128_S320x128_d0

/-- The least entry over all rows. -/
def aMin (v : FVec F S40x128x128 .f32) : FVec F S1x128 .f32 :=
  shapeCast S1x128 (multiReduction .minimumf [0] S128 (cMin v) 0x7F800000#32 reduces_S40x128_S128 (.inl rfl) rfl)
    shapeCasts_S128_S1x128

/-! ## The rounds over the pool -/

/-- The least entry of the pool. -/
def pMin (v : FVec F S320x128 .f32) : FVec F S1x128 .f32 :=
  shapeCast S1x128 (multiReduction .minimumf [0] S128 v 0x7F800000#32 reduces_S320x128_S128 (.inl rfl) rfl)
    shapeCasts_S128_S1x128

/-- The least row number at which the pool's least entry stands. -/
def pArg (c v : FVec F S320x128 .f32) : FVec F S1x128 .f32 :=
  pMin (select (cmpf .oeq v (broadcastTo S320x128 (pMin v) broadcasts_S1x128_S320x128)) c (broadcast S320x128 pastLast))

/-- The pool with the picked entry overwritten. -/
def pUp (c v : FVec F S320x128 .f32) : FVec F S320x128 .f32 :=
  select (cmpf .oeq c (broadcastTo S320x128 (pArg c v) broadcasts_S1x128_S320x128)) (broadcast S320x128 big) v

/-- The pool's entries after `n` rounds. -/
def pState (c v : FVec F S320x128 .f32) : ℕ → FVec F S320x128 .f32
  | 0 => v
  | n + 1 => pUp c (pState c v n)

/-- Fifty rows stacked make a block of fifty rows. -/
theorem rows50 (f : Fin 50 → FVec F S1x128 .f32) :
    Shape.Concatenates ((List.ofFn fun n : Fin 50 => (⟨S1x128, f n⟩ : (s : Shape) × (s.Idx → F .f32))).map (·.1)) S50x128 0 := by
  have e : (List.ofFn fun n : Fin 50 => (⟨S1x128, f n⟩ : (s : Shape) × (s.Idx → F .f32))).map (·.1) = List.replicate 50 S1x128 := by
    rw [List.map_ofFn]; exact List.ofFn_const 50 S1x128
  rw [e]; decide

/-- The fifty row numbers picked from the pool. -/
def topI (c v : FVec F S320x128 .f32) : FVec F S50x128 .f32 :=
  concatenate S50x128 0 (List.ofFn fun n : Fin 50 => ⟨S1x128, pArg c (pState c v n)⟩) (rows50 _)

/-- The fifty entries picked from the pool. -/
def topD (c v : FVec F S320x128 .f32) : FVec F S50x128 .f32 :=
  concatenate S50x128 0 (List.ofFn fun n : Fin 50 => ⟨S1x128, pMin (pState c v n)⟩) (rows50 _)

/-! ## The rounds over all rows -/

/-- The least row number at which the least entry over all rows stands. -/
def aArg (c v : FVec F S40x128x128 .f32) : FVec F S1x128 .f32 :=
  aMin (select (cmpf .oeq v (broadcastTo S40x128x128 (shapeCast S1x1x128 (aMin v) shapeCasts_S1x128_S1x1x128)
    broadcasts_S1x1x128_S40x128x128)) c (broadcast S40x128x128 pastLast))

/-- The loop's carried values: the entries, the row numbers and the entries picked so far. -/
abbrev Carry (F : FTy → Type) : Type := FVec F S40x128x128 .f32 × FVec F S50x128 .f32 × FVec F S50x128 .f32

/-- A trip of the loop. -/
def trip (c : FVec F S40x128x128 .f32) (k : Fin k0_t1_loop.trips) (s : Carry F) : Carry F :=
  (k0_pay203 c s.1, k0_pay201 c k s.1 s.2.1, k0_pay202 k s.1 s.2.2)

/-- The loop's result. -/
def exact (c v : FVec F S40x128x128 .f32) : Carry F := Scf.fold (trip c) (v, k0_pay197, k0_pay198)

/-! ## The test and the stored blocks -/

/-- One where the pool's selection is complete in every lane. -/
def valid (c v : FVec F S40x128x128 .f32) : BitVec 1 :=
  Scalar.cmpi .ne (Scalar.extui (Scalar.cmpf .ogt (extractAt ![0, 0, 0] (shapeCast S1x1x1 (multiReduction .minimumf [1, 2] S1
    (shapeCast S1x1x128 (select (cmpf .olt (extractStridedSlice S1x128 ![49, 0] (topD (poolC c v) (poolV c v)) slices_S50x128_o49_0_S1x128)
      (aMin (cState c v 8))) (broadcast S1x128 (Scalar.ofBits (F := F) .f32 0x3F800000#32)) (broadcast S1x128 (Scalar.ofBits .f32 0x00000000#32)))
      shapeCasts_S1x128_S1x1x128) 0x7F800000#32 reduces_S1x1x128_S1 (.inl rfl) rfl) shapeCasts_S1_S1x1x1) inpos_S1x1x1_p0_0_0)
    (Scalar.ofBits .f32 0x00000000#32))) 0#32

/-- The two selections: from the pool if it is complete, else from all rows. -/
def chosen (c v : FVec F S40x128x128 .f32) : FVec F S50x128 .f32 × FVec F S50x128 .f32 :=
  if valid c v = 1#1 then (topI (poolC c v) (poolV c v), topD (poolC c v) (poolV c v)) else ((exact c v).2.1, (exact c v).2.2)

/-- The block of neighbours. -/
def outI (i : grid0.Coords) (x0 : Vec F S5120x3 .f32) (x1 : Vec F S3x128 .f32) : Vec F S50x128 .i32 :=
  k0_pay204 (chosen k0_pay2 (k0_pay3 i x0 x1)).1

/-- The block of attributes. -/
def outA (i : grid0.Coords) (x0 : Vec F S5120x3 .f32) (x1 : Vec F S3x128 .f32) : Vec F S50x5x128 .f32 :=
  k0_pay1 (k0_pay205 (chosen k0_pay2 (k0_pay3 i x0 x1)).2) k0_pay206 k0_pay207

end Cert.Knn

end
-- ==== Proof.Select.lean ====
/-
  Picking the least entries one at a time. A set of column numbers is picked from in the order of the entries, equal
  entries in the order of the columns; a round over a table that lists the entries with the picked ones overwritten by a
  large number picks the next column; a stable sort lists the columns in the same order. The order in which the columns
  are picked is unique, so any two of these ways give the same columns.
-/
module

public import Idealize.ShloMosaic.Lib.SortPrefix
public import Mathlib.Data.EReal.Basic
public import Mathlib.Order.Bounds.Basic
public import Mathlib.Algebra.Order.Floor.Semiring

@[expose] public section

noncomputable section

namespace Cert.Knn.Select

open Idealize.ShloMosaic

/-! ## The next column -/

/-- Column `j` of `T` has the least entry of `T`, and is the first such column. -/
def IsNext (d : ℕ → EReal) (T : Finset ℕ) (j : ℕ) : Prop := j ∈ T ∧ ∀ k ∈ T, d j < d k ∨ d j = d k ∧ j ≤ k

/-- The next column is unique. -/
theorem IsNext.unique {d : ℕ → EReal} {T : Finset ℕ} {j k : ℕ} (hj : IsNext d T j) (hk : IsNext d T k) : j = k := by
  rcases hj.2 k hk.1 with h | ⟨h, h'⟩
  · rcases hk.2 j hj.1 with g | ⟨g, _⟩
    · exact absurd g h.not_gt
    · exact absurd (g ▸ h) (lt_irrefl _)
  · rcases hk.2 j hj.1 with g | ⟨_, g'⟩
    · exact absurd (h ▸ g) (lt_irrefl _)
    · exact le_antisymm h' g'

/-- The columns left after the first `n` picks of `p`. -/
def left (T : Finset ℕ) (p : ℕ → ℕ) : ℕ → Finset ℕ
  | 0 => T
  | n + 1 => (left T p n).erase (p n)

/-- A column is left if none of the first picks is it. -/
theorem mem_left {T : Finset ℕ} {p : ℕ → ℕ} {n k : ℕ} : k ∈ left T p n ↔ k ∈ T ∧ ∀ m < n, k ≠ p m := by
  induction n with
  | zero => simp [left]
  | succ n ih =>
    rw [left, Finset.mem_erase, ih]
    constructor
    · rintro ⟨h, hT, hm⟩
      refine ⟨hT, fun m hmn => ?_⟩
      rcases Nat.lt_succ_iff_lt_or_eq.mp hmn with h' | rfl
      · exact hm m h'
      · exact h
    · rintro ⟨hT, hm⟩
      exact ⟨hm n (Nat.lt_succ_self n), hT, fun m hmn => hm m (Nat.lt_succ_of_lt hmn)⟩

/-- Each pick removes at most one column. -/
theorem card_left (T : Finset ℕ) (p : ℕ → ℕ) (n : ℕ) : T.card ≤ (left T p n).card + n := by
  induction n with
  | zero => exact le_rfl
  | succ n ih =>
    have := Finset.pred_card_le_card_erase (s := left T p n) (a := p n)
    show T.card ≤ ((left T p n).erase (p n)).card + (n + 1)
    omega

/-- Fewer picks than columns leave a column. -/
theorem left_nonempty {T : Finset ℕ} {n : ℕ} (p : ℕ → ℕ) (h : n < T.card) : (left T p n).Nonempty := by
  have := card_left T p n
  exact Finset.card_pos.mp (by omega)

/-- The first `N` picks of `p` are the next columns of `T`, one after the other. -/
def Picks (d : ℕ → EReal) (T : Finset ℕ) (N : ℕ) (p : ℕ → ℕ) : Prop := ∀ n < N, IsNext d (left T p n) (p n)

/-- What is left depends on the picks made. -/
theorem left_congr {T : Finset ℕ} {p q : ℕ → ℕ} {n : ℕ} (h : ∀ m < n, p m = q m) : left T p n = left T q n := by
  ext k
  rw [mem_left, mem_left]
  exact and_congr_right fun _ => forall_congr' fun m => forall_congr' fun hm => by rw [h m hm]

/-- The picks are unique. -/
theorem Picks.unique {d : ℕ → EReal} {T : Finset ℕ} {N : ℕ} {p q : ℕ → ℕ} (hp : Picks d T N p) (hq : Picks d T N q) :
    ∀ n < N, p n = q n := by
  intro n
  induction n using Nat.strong_induction_on with
  | _ n ih =>
    intro hn
    have e : left T p n = left T q n := left_congr fun m hm => ih m hm (hm.trans hn)
    exact (hp n hn).unique (e ▸ hq n hn)

/-- A pick is a column of the table. -/
theorem Picks.mem {d : ℕ → EReal} {T : Finset ℕ} {N : ℕ} {p : ℕ → ℕ} (hp : Picks d T N p) {n : ℕ} (hn : n < N) : p n ∈ T :=
  (mem_left.mp (hp n hn).1).1

/-- No column is picked twice. -/
theorem Picks.injective {d : ℕ → EReal} {T : Finset ℕ} {N : ℕ} {p : ℕ → ℕ} (hp : Picks d T N p) {m n : ℕ} (hmn : m < n)
    (hn : n < N) : p n ≠ p m := (mem_left.mp (hp n hn).1).2 m hmn

/-! ## A round over a table -/

/-- A column number as an extended real. -/
abbrev num (k : ℕ) : EReal := ((k : ℝ) : EReal)

/-- Different columns have different numbers. -/
theorem num_inj {j k : ℕ} : num j = num k ↔ j = k := by
  rw [EReal.coe_eq_coe_iff, Nat.cast_inj]

/-- Numbers are ordered as their columns. -/
theorem num_le {j k : ℕ} : num j ≤ num k ↔ j ≤ k := by
  rw [EReal.coe_le_coe_iff, Nat.cast_le]

/-- The column number back from the extended real. -/
def col (x : EReal) : ℕ := ⌊x.toReal⌋₊

/-- The column of a column's number. -/
theorem col_num (k : ℕ) : col (num k) = k := by
  rw [col, EReal.toReal_coe, Nat.floor_natCast]

/-- `μ` is the least of `f`'s values. -/
def Least {ι : Type} (f : ι → EReal) (μ : EReal) : Prop := (∀ i, μ ≤ f i) ∧ ∃ i, f i = μ

variable {ι : Type} {b : EReal} {d : ℕ → EReal} {T : Finset ℕ} {g : ι → ℕ} {v v' : ι → EReal} {μ κ : EReal}

/-- The table `v` lists column `g i`'s entry at `i` if the column is in `T`, and the large number `b` elsewhere; every
    column of `T` is listed. -/
structure Lists (b : EReal) (d : ℕ → EReal) (T : Finset ℕ) (g : ι → ℕ) (v : ι → EReal) : Prop where
  onto : ∀ k ∈ T, ∃ i, g i = k
  on : ∀ i, g i ∈ T → v i = d (g i)
  off : ∀ i, g i ∉ T → v i = b

/-- The least entry of a table and the first column that has it are the next column. -/
theorem Lists.next (h : Lists b d T g v) (hne : T.Nonempty) (hb : ∀ k ∈ T, d k < b) (hg : ∀ i, g i ≤ 5120)
    (hμ : Least v μ) (hκ : Least (fun i => if v i = μ then num (g i) else num 5120) κ) :
    ∃ j, IsNext d T j ∧ μ = d j ∧ κ = num j := by
  obtain ⟨k₀, hk₀⟩ := hne
  obtain ⟨i₀, hi₀⟩ := h.onto k₀ hk₀
  have hμb : μ < b := lt_of_le_of_lt ((hμ.1 i₀).trans (by rw [h.on i₀ (hi₀ ▸ hk₀), hi₀])) (hb k₀ hk₀)
  have hin : ∀ i, v i = μ → g i ∈ T := fun i hi => by
    by_contra hc
    exact absurd (h.off i hc) (by rw [hi]; exact hμb.ne)
  -- some entry has the least value, and the first column is one that has it
  have hpick : ∃ i, v i = μ ∧ κ = num (g i) := by
    obtain ⟨i, hi⟩ := hκ.2
    by_cases hv : v i = μ
    · exact ⟨i, hv, by rw [← hi]; exact if_pos hv⟩
    · obtain ⟨i₁, hi₁⟩ := hμ.2
      have hk : κ = num 5120 := by rw [← hi]; exact if_neg hv
      have h1 : κ ≤ num (g i₁) := (hκ.1 i₁).trans (le_of_eq (if_pos hi₁))
      exact ⟨i₁, hi₁, le_antisymm h1 (hk ▸ num_le.mpr (hg i₁))⟩
  obtain ⟨i, hi, hki⟩ := hpick
  refine ⟨g i, ⟨hin i hi, fun k hk => ?_⟩, by rw [← hi, h.on i (hin i hi)], hki⟩
  obtain ⟨i', rfl⟩ := h.onto k hk
  have hv : v i' = d (g i') := h.on i' hk
  have hd : d (g i) = μ := by rw [← hi, h.on i (hin i hi)]
  rcases lt_or_eq_of_le (hμ.1 i') with hlt | heq
  · exact Or.inl (by rw [hd, ← hv]; exact hlt)
  · refine Or.inr ⟨by rw [hd, ← hv]; exact heq, num_le.mp ?_⟩
    rw [← hki]
    exact (hκ.1 i').trans (le_of_eq (if_pos heq.symm))

/-- Overwriting the picked column removes it from the table. -/
theorem Lists.erase (h : Lists b d T g v) {j : ℕ} (hv' : ∀ i, v' i = if num (g i) = num j then b else v i) :
    Lists b d (T.erase j) g v' where
  onto k hk := h.onto k (Finset.mem_of_mem_erase hk)
  on i hi := by
    have hne := Finset.ne_of_mem_erase hi
    rw [hv', if_neg (fun e => hne (num_inj.mp e))]
    exact h.on i (Finset.mem_of_mem_erase hi)
  off i hi := by
    rw [hv']
    split
    · rfl
    · rename_i hne
      exact h.off i fun hT => hi (Finset.mem_erase.mpr ⟨fun e => hne (num_inj.mpr e), hT⟩)

/-- An empty table stays empty. -/
theorem Lists.empty (h : Lists b d ∅ g v) {κ : EReal} (j : ℕ) (hv' : ∀ i, v' i = if num (g i) = κ then b else v i) :
    Lists b d ((∅ : Finset ℕ).erase j) g v' where
  onto k hk := absurd (Finset.mem_of_mem_erase hk) (Finset.notMem_empty k)
  on i hi := absurd (Finset.mem_of_mem_erase hi) (Finset.notMem_empty _)
  off i _ := by
    rw [hv']
    split
    · rfl
    · exact h.off i (Finset.notMem_empty _)

/-! ## Rounds one after the other -/

/-- Tables `st 0, st 1, …`, each the one before with the column that the round before picked overwritten: the round's
    least entry is `lo n`, the first column that has it `at n`. -/
structure Rounds (b : EReal) (g : ι → ℕ) (st : ℕ → ι → EReal) (lo pos : ℕ → EReal) : Prop where
  least : ∀ n, Least (st n) (lo n)
  first : ∀ n, Least (fun i => if st n i = lo n then num (g i) else num 5120) (pos n)
  step : ∀ n i, st (n + 1) i = if num (g i) = pos n then b else st n i

variable {st : ℕ → ι → EReal} {lo pos : ℕ → EReal}

/-- The columns that the rounds pick. -/
def picks (pos : ℕ → EReal) (n : ℕ) : ℕ := col (pos n)

/-- Before every round the table lists the columns not picked yet. -/
theorem Rounds.lists (h : Rounds b g st lo pos) (h0 : Lists b d T g (st 0)) (hb : ∀ k ∈ T, d k < b) (hg : ∀ i, g i ≤ 5120) (n : ℕ) :
    Lists b d (left T (picks pos) n) g (st n) := by
  induction n with
  | zero => exact h0
  | succ n ih =>
    rcases (left T (picks pos) n).eq_empty_or_nonempty with he | hne
    · show Lists b d ((left T (picks pos) n).erase _) g _
      rw [he] at ih ⊢
      exact ih.empty _ (h.step n)
    · obtain ⟨j, _, _, hj⟩ := ih.next hne (fun k hk => hb k (mem_left.mp hk).1) hg (h.least n) (h.first n)
      have e : picks pos n = j := by rw [picks, hj, col_num]
      show Lists b d ((left T (picks pos) n).erase (picks pos n)) g _
      rw [e]
      exact ih.erase fun i => by rw [h.step n i, hj]

/-- A round over a table that is not empty picks the next column. -/
theorem Rounds.next (h : Rounds b g st lo pos) (h0 : Lists b d T g (st 0)) (hb : ∀ k ∈ T, d k < b) (hg : ∀ i, g i ≤ 5120) (n : ℕ)
    (hne : (left T (picks pos) n).Nonempty) :
    IsNext d (left T (picks pos) n) (picks pos n) ∧ lo n = d (picks pos n) ∧ pos n = num (picks pos n) := by
  obtain ⟨j, hn, hl, hj⟩ := (h.lists h0 hb hg n).next hne (fun k hk => hb k (mem_left.mp hk).1) hg (h.least n) (h.first n)
  have e : picks pos n = j := by rw [picks, hj, col_num]
  rw [e]
  exact ⟨hn, hl, hj⟩

/-- Rounds over a table of at least `N` columns pick the first `N`. -/
theorem Rounds.picks_of_card (h : Rounds b g st lo pos) (h0 : Lists b d T g (st 0)) (hb : ∀ k ∈ T, d k < b) (hg : ∀ i, g i ≤ 5120)
    {N : ℕ} (hN : N ≤ T.card) :
    Picks d T N (picks pos) ∧ ∀ n < N, lo n = d (picks pos n) ∧ pos n = num (picks pos n) :=
  ⟨fun n hn => (h.next h0 hb hg n (left_nonempty _ (hn.trans_le hN))).1,
    fun n hn => (h.next h0 hb hg n (left_nonempty _ (hn.trans_le hN))).2⟩

/-! ## Rounds over chunks, then over the pool of what they picked -/

/-- If the chunks `C a` make up `T`, each gives its first `R` columns to a pool, every entry left in a chunk is at least
    `s`, and the last of `N` rounds over the pool finds an entry under `s`, which is no more than the large number, then
    the rounds over the pool pick the first `N` columns of `T`. -/
theorem picks_of_pool {A P : Type} {C : A → Finset ℕ} {R N : ℕ} (hT : ∀ k, k ∈ T ↔ ∃ a, k ∈ C a) {q : A → ℕ → ℕ}
    (hq : ∀ a, Picks d (C a) R (q a)) (hb : ∀ k ∈ T, d k < b)
    {s : EReal} (hs : ∀ a, ∀ k ∈ left (C a) (q a) R, s ≤ d k) (hsb : s ≤ b)
    {g : P → ℕ} {st : ℕ → P → EReal} {lo pos : ℕ → EReal} (h : Rounds b g st lo pos)
    (hlist : ∀ a n, n < R → ∃ i, g i = q a n) (hof : ∀ i, ∃ a, ∃ n < R, g i = q a n) (h0 : ∀ i, st 0 i = d (g i))
    (hg : ∀ i, g i ≤ 5120) (hlast : lo N < s) :
    Picks d T (N + 1) (picks pos) ∧ ∀ n < N + 1, lo n = d (picks pos n) ∧ pos n = num (picks pos n) := by
  classical
  -- the pool's columns
  set U : Finset ℕ := T.filter fun k => ∃ i, g i = k with hU
  have hgU : ∀ i, g i ∈ U := fun i => by
    obtain ⟨a, n, hn, e⟩ := hof i
    exact Finset.mem_filter.mpr ⟨(hT _).mpr ⟨a, e ▸ (hq a).mem hn⟩, i, rfl⟩
  have hlU : Lists b d U g (st 0) :=
    ⟨fun k hk => (Finset.mem_filter.mp hk).2, fun i _ => h0 i, fun i hi => absurd (hgU i) hi⟩
  have hbU : ∀ k ∈ U, d k < b := fun k hk => hb k (Finset.mem_filter.mp hk).1
  -- the last round's table is not empty, so no earlier one is
  have hneN : (left U (picks pos) N).Nonempty := by
    rw [Finset.nonempty_iff_ne_empty]
    intro he
    have hl := h.lists hlU hbU hg N
    rw [he] at hl
    obtain ⟨i, hi⟩ := (h.least N).2
    rw [hl.off i (Finset.notMem_empty _)] at hi
    exact absurd (hi ▸ hlast) (not_lt.mpr hsb)
  have hsub : ∀ n, n ≤ N → left U (picks pos) N ⊆ left U (picks pos) n := fun n hn k hk =>
    mem_left.mpr ⟨(mem_left.mp hk).1, fun m hm => (mem_left.mp hk).2 m (hm.trans_le hn)⟩
  have hnext := fun n (hn : n < N + 1) => h.next hlU hbU hg n (hneN.mono (hsub n (Nat.lt_succ_iff.mp hn)))
  refine ⟨fun n hn => ?_, fun n hn => (hnext n hn).2⟩
  obtain ⟨hj, hleast⟩ := (hnext n hn).1
  refine ⟨mem_left.mpr ⟨(Finset.mem_filter.mp (mem_left.mp hj).1).1, (mem_left.mp hj).2⟩, fun k hk => ?_⟩
  by_cases hkU : k ∈ U
  · exact hleast k (mem_left.mpr ⟨hkU, (mem_left.mp hk).2⟩)
  · left
    have hkT := (mem_left.mp hk).1
    obtain ⟨a, ha⟩ := (hT k).mp hkT
    have hka : k ∈ left (C a) (q a) R := mem_left.mpr ⟨ha, fun m hm e => by
      obtain ⟨i, hi⟩ := hlist a m hm
      exact hkU (Finset.mem_filter.mpr ⟨hkT, i, hi.trans e.symm⟩)⟩
    obtain ⟨hjN, hloN, _⟩ := hnext N (Nat.lt_succ_self N)
    have h1 : d (picks pos n) ≤ d (picks pos N) := by
      rcases hleast _ (hsub n (Nat.lt_succ_iff.mp hn) hjN.1) with h' | ⟨h', _⟩
      · exact h'.le
      · exact h'.le
    exact lt_of_le_of_lt h1 (lt_of_lt_of_le (hloN ▸ hlast) (hs a k hka))

/-! ## A stable sort -/

/-- A stable sort of positions by a key is the sort by the key and then the position. -/
theorem stableSort_then_position {n : ℕ} (B : Fin n → Fin n → Bool) (E : Fin n → Fin n → Bool) (l : List (Fin n))
    (hl : l.Pairwise (· < ·)) :
    stableSort B l = stableSort (fun k k' => B k k' || (E k k' && decide (k < k'))) l := by
  induction l with
  | nil => rfl
  | cons a l ih =>
    rw [List.pairwise_cons] at hl
    unfold stableSort
    rw [← ih hl.2]
    refine insertBefore_congr _ _ a _ fun k hk => ?_
    have hak : a < k := hl.1 k ((perm_stableSort B l).mem_iff.mp hk)
    simp [not_lt.mpr hak.le]

/-- The first positions of a stable sort by the entries are the picks. -/
theorem sort_picks {n : ℕ} (d : ℕ → EReal) (B : Fin n → Fin n → Bool) (hB : ∀ k k', B k k' = decide (d k < d k')) :
    Picks d (Finset.range n) n (fun m => if h : m < n then (sortedFrom B ⟨m, h⟩).val else 0) := by
  set R : Fin n → Fin n → Bool := fun k k' => B k k' || (decide (d k = d k') && decide (k < k')) with hR
  have hstrict : StrictTotalBefore R := by
    have := StrictTotalBefore.of_key_then_position (n := n) (fun x y : EReal => decide (x < y)) (fun k => d k)
      (fun a => by simp) (fun a b c h1 h2 => by simp only [decide_eq_true_eq] at h1 h2 ⊢; exact h1.trans h2)
      (fun a b => by simp only [decide_eq_true_eq]; exact lt_trichotomy a b)
    have e : R = fun k k' : Fin n => decide (d k < d k') || (decide (d k = d k') && decide (k < k')) := by
      funext k k'; simp only [hR, hB]
    rw [e]
    exact this
  have hsort : sortedFrom B = sortedFrom R := by
    funext k
    unfold sortedFrom
    have e : sortPositions n B = sortPositions n R :=
      stableSort_then_position B (fun k k' => decide (d k = d k')) (List.finRange n) (List.pairwise_lt_finRange n)
    rw [List.get_of_eq e]
    rfl
  have hRf : ∀ k k', R k k' = false ↔ d k' ≤ d k ∧ (¬ d k = d k' ∨ k' ≤ k) := fun k k' => by
    simp only [hR, hB, Bool.or_eq_false_iff, decide_eq_false_iff_not, Bool.and_eq_false_iff, not_lt]
  intro m hm
  simp only [dif_pos hm]
  have hord : ∀ i j : Fin n, i < j → R (sortedFrom R j) (sortedFrom R i) = false := fun i j hij =>
    sortedFrom_noInversion R R (fun a b h => hstrict.asymm a b h) (fun _ _ h => h) hstrict.negTrans i j hij
  refine ⟨mem_left.mpr ⟨Finset.mem_range.mpr (Fin.isLt _), fun k hk e => ?_⟩, fun k hk => ?_⟩
  · rw [dif_pos (hk.trans hm)] at e
    have := sortedFrom_injective B (Fin.ext e)
    simp only [Fin.mk.injEq] at this
    omega
  · obtain ⟨hkn, hk'⟩ := mem_left.mp hk
    obtain ⟨i, hi⟩ := sortedFrom_surjective B ⟨k, Finset.mem_range.mp hkn⟩
    have hmi : m ≤ i.val := by
      by_contra hc
      have := hk' i.val (not_le.mp hc)
      rw [dif_pos i.isLt] at this
      exact this (by rw [Fin.eta, hi])
    have hki : k = (sortedFrom R i).val := by rw [← hsort, hi]
    rcases Nat.eq_or_lt_of_le hmi with he | hlt
    · right
      have : (⟨m, hm⟩ : Fin n) = i := Fin.ext he
      rw [this, hki, hsort]
      exact ⟨rfl, le_rfl⟩
    · have := hord ⟨m, hm⟩ i hlt
      rw [hsort, hki]
      rw [hRf] at this
      rcases lt_or_eq_of_le this.1 with h1 | h1
      · exact Or.inl h1
      · refine Or.inr ⟨h1, ?_⟩
        rcases this.2 with h2 | h2
        · exact absurd h1.symm h2
        · exact h2

end Cert.Knn.Select

end
-- ==== Proof.Lane.lean ====
/-
  The kernel's selection at one lane, over the extended reals: each kind of round, at the entries of one lane, is a round
  over a table (Select.lean); so whichever of the two selections the body takes, a lane's fifty row numbers are the fifty
  next rows and its fifty entries are theirs.
-/
module

public import proofs.«01_k».proof.Proof.Model
public import proofs.«01_k».proof.Proof.Select
public import Idealize.ShloMosaic.Lib.Pointwise
public import Idealize.ShloMosaic.Lib.Pipeline.Value

@[expose] public section

set_option maxRecDepth 16384

noncomputable section

namespace Cert.Knn

open Idealize.ShloMosaic Idealize.SL.Sem Cert.KernelIdeal Cert.KernelIdeal.Gen Cert.Knn.Select

/-! ## Least values -/

/-- The word of infinity. -/
theorem top_bits : Ideal.ofBits .f32 0x7F800000#32 = ⊤ := by simp [Ideal.ofBits, Ideal.ieee]

/-- The number past the last column. -/
theorem pastLast_eq : (pastLast : Ideal .f32) = num 5120 := by
  show Ideal.ofBits .f32 0x45A00000#32 = num 5120
  simp [Ideal.ofBits, Ideal.ieee, num, -EReal.coe_mul]; norm_num

/-- A minimum that starts at the top is the least value. -/
theorem least_fold {κ : Type} [Fintype κ] [Nonempty κ] (f : κ → EReal) :
    Least f (Finset.fold min (Ideal.ofBits .f32 0x7F800000#32) f Finset.univ) := by
  rw [top_bits]
  refine ⟨fun i => ?_, ?_⟩
  · exact (Finset.fold_min_le (f i)).mpr (Or.inr ⟨i, Finset.mem_univ i, le_rfl⟩)
  · rcases (Finset.fold_min_le (s := Finset.univ) (f := f) (b := ⊤)
      (Finset.fold min ⊤ f Finset.univ)).mp le_rfl with h | ⟨i, _, h⟩
    · obtain ⟨i⟩ := ‹Nonempty κ›
      refine ⟨i, le_antisymm (le_top.trans h) ?_⟩
      exact (Finset.fold_min_le (f i)).mpr (Or.inr ⟨i, Finset.mem_univ i, le_rfl⟩)
    · exact ⟨i, le_antisymm h ((Finset.fold_min_le (f i)).mpr (Or.inr ⟨i, Finset.mem_univ i, le_rfl⟩))⟩

/-- The least of the least values of rows is the least over all. -/
theorem least_least {κ ι : Type} {f : κ → ι → EReal} {μ : κ → EReal} {ν : EReal} (h : ∀ a, Least (f a) (μ a)) (hν : Least μ ν) :
    Least (fun x : κ × ι => f x.1 x.2) ν := by
  refine ⟨fun x => (hν.1 x.1).trans ((h x.1).1 x.2), ?_⟩
  obtain ⟨a, ha⟩ := hν.2
  obtain ⟨i, hi⟩ := (h a).2
  exact ⟨(a, i), hi.trans ha⟩

variable (c v : FVec Ideal S40x128x128 .f32)

/-! ## One round at an index -/

/-- A chunk's least entry. -/
theorem cMin_least (a : Fin 40) (l : Fin 128) : Least (fun r : Fin 128 => v (ix3 a r l)) (cMin v (ix2 a l)) := by
  have e : cMin v (ix2 a l) = Finset.fold min (Ideal.ofBits .f32 0x7F800000#32) (fun r : Fin 128 => v (ix3 a r l)) Finset.univ := by
    pointwise [cMin]
  rw [e]
  exact least_fold _

/-- A lane's least entry. -/
theorem aMin_least (l : Fin 128) : Least (fun x : Fin 40 × Fin 128 => v (ix3 x.1 x.2 l)) (aMin v (ix2 0 l)) := by
  have e : aMin v (ix2 0 l) = Finset.fold min (Ideal.ofBits .f32 0x7F800000#32) (fun a : Fin 40 => cMin v (ix2 a l)) Finset.univ := by
    pointwise [aMin]
  rw [e]
  exact least_least (fun a => cMin_least v a l) (least_fold _)

/-- The pool's least entry. -/
theorem pMin_least (w : FVec Ideal S320x128 .f32) (l : Fin 128) : Least (fun x : Fin 320 => w (ix2 x l)) (pMin w (ix2 0 l)) := by
  have e : pMin w (ix2 0 l) = Finset.fold min (Ideal.ofBits .f32 0x7F800000#32) (fun x : Fin 320 => w (ix2 x l)) Finset.univ := by
    pointwise [pMin]
  rw [e]
  exact least_fold _

/-- The least number among the columns of a chunk that hold its least entry. -/
theorem cArg_least (a : Fin 40) (l : Fin 128) :
    Least (fun r : Fin 128 => if v (ix3 a r l) = cMin v (ix2 a l) then c (ix3 a r l) else num 5120) (cArg c v (ix2 a l)) := by
  have h := cMin_least (select (cmpf .oeq v (broadcastTo S40x128x128 (shapeCast S40x1x128 (cMin v) shapeCasts_S40x128_S40x1x128)
    broadcasts_S40x1x128_S40x128x128)) c (broadcast S40x128x128 pastLast)) a l
  rw [← pastLast_eq]
  refine cast (congrArg (fun f => Least f _) ?_) h
  funext r
  pointwise

/-- The least number among the columns of a lane that hold its least entry. -/
theorem aArg_least (l : Fin 128) :
    Least (fun x : Fin 40 × Fin 128 => if v (ix3 x.1 x.2 l) = aMin v (ix2 0 l) then c (ix3 x.1 x.2 l) else num 5120) (aArg c v (ix2 0 l)) := by
  have h := aMin_least (select (cmpf .oeq v (broadcastTo S40x128x128 (shapeCast S1x1x128 (aMin v) shapeCasts_S1x128_S1x1x128)
    broadcasts_S1x1x128_S40x128x128)) c (broadcast S40x128x128 pastLast)) l
  rw [← pastLast_eq]
  refine cast (congrArg (fun f => Least f _) ?_) h
  funext x
  pointwise

/-- The least number among the rows of the pool that hold its least entry. -/
theorem pArg_least (e w : FVec Ideal S320x128 .f32) (l : Fin 128) :
    Least (fun x : Fin 320 => if w (ix2 x l) = pMin w (ix2 0 l) then e (ix2 x l) else num 5120) (pArg e w (ix2 0 l)) := by
  have h := pMin_least (select (cmpf .oeq w (broadcastTo S320x128 (pMin w) broadcasts_S1x128_S320x128)) e (broadcast S320x128 pastLast)) l
  rw [← pastLast_eq]
  refine cast (congrArg (fun f => Least f _) ?_) h
  funext x
  pointwise

/-- A chunk's round marks the column that it picked. -/
theorem cUp_apply (a : Fin 40) (r l : Fin 128) :
    cUp c v (ix3 a r l) = if c (ix3 a r l) = cArg c v (ix2 a l) then big else v (ix3 a r l) := by
  pointwise [cUp]

/-- A pool's round marks the row that it picked. -/
theorem pUp_apply (e w : FVec Ideal S320x128 .f32) (x : Fin 320) (l : Fin 128) :
    pUp e w (ix2 x l) = if e (ix2 x l) = pArg e w (ix2 0 l) then big else w (ix2 x l) := by
  pointwise [pUp]

/-- A lane's round marks the column that it picked. -/
theorem mask_apply (a : Fin 40) (r l : Fin 128) :
    k0_pay203 c v (ix3 a r l) = if c (ix3 a r l) = aArg c v (ix2 0 l) then big else v (ix3 a r l) := by
  show _ = if c (ix3 a r l) = k0_pay200 c v (ix2 0 l) then Ideal.ofBits .f32 0x7149F2CA#32 else _
  pointwise [k0_pay203]

/-- Row `r` is compared with the trip's number. -/
theorem row_eq (r : Fin 50) (k : ℕ) (hk : k < 50) :
    IntOp.cmpi .eq (BitVec.ofNat 32 r) (Scf.iv 0#32 1#32 k) = if r.val = k then 1#1 else 0#1 := by
  have hr := r.isLt
  have this : (BitVec.ofNat 32 r.val = BitVec.ofNat 32 k) ↔ r.val = k := by
    rw [← BitVec.toNat_inj, BitVec.toNat_ofNat, BitVec.toNat_ofNat]; omega
  have ei : Scf.iv 0#32 1#32 k = BitVec.ofNat 32 k := by simp [Scf.iv]
  rw [ei]
  by_cases h : r.val = k
  · rw [if_pos h, h]; simp [IntOp.cmpi]
  · have hb : (BitVec.ofNat 32 r.val == BitVec.ofNat 32 k) = false := beq_eq_false_iff_ne.mpr fun e => h (this.mp e)
    rw [if_neg h]; simp [IntOp.cmpi, hb]

/-- A trip writes the number that it picked into its row. -/
theorem rowI_apply (k : Fin k0_t1_loop.trips) (t : FVec Ideal S50x128 .f32) (r : Fin 50) (l : Fin 128) :
    k0_pay201 c k v t (ix2 r l) = if r.val = k.val then aArg c v (ix2 0 l) else t (ix2 r l) := by
  have hk : k.val < 50 := k.isLt
  have e : k0_pay201 c k v t (ix2 r l) = Scalar.select (IntOp.cmpi .eq (BitVec.ofNat 32 r) (Scf.iv 0#32 1#32 k)) (k0_pay200 c v (ix2 0 l)) (t (ix2 r l)) := by
    pointwise [k0_pay201]
  rw [e, row_eq r k.val hk]
  by_cases h : r.val = k.val
  · rw [if_pos h, if_pos h]; rfl
  · rw [if_neg h, if_neg h]; rfl

/-- A trip writes the entry that it picked into its row. -/
theorem rowD_apply (k : Fin k0_t1_loop.trips) (t : FVec Ideal S50x128 .f32) (r : Fin 50) (l : Fin 128) :
    k0_pay202 k v t (ix2 r l) = if r.val = k.val then aMin v (ix2 0 l) else t (ix2 r l) := by
  have hk : k.val < 50 := k.isLt
  have e : k0_pay202 k v t (ix2 r l) = Scalar.select (IntOp.cmpi .eq (BitVec.ofNat 32 r) (Scf.iv 0#32 1#32 k)) (k0_pay199 v (ix2 0 l)) (t (ix2 r l)) := by
    pointwise [k0_pay202]
  rw [e, row_eq r k.val hk]
  by_cases h : r.val = k.val
  · rw [if_pos h, if_pos h]; rfl
  · rw [if_neg h, if_neg h]; rfl

/-- The table of row numbers. -/
theorem rows_apply (a : Fin 40) (r l : Fin 128) : (k0_pay2 : FVec Ideal S40x128x128 .f32) (ix3 a r l) = num (128 * a.val + r.val) := by
  have e : (k0_pay2 : FVec Ideal S40x128x128 .f32) (ix3 a r l)
      = ((((IntOp.addi (IntOp.muli (BitVec.ofNat 32 a) 128#32) (BitVec.ofNat 32 r)).toInt : ℤ) : ℝ) : EReal) := by
    pointwise [k0_pay2]; rfl
  have eb : IntOp.addi (IntOp.muli (BitVec.ofNat 32 a) 128#32) (BitVec.ofNat 32 r) = BitVec.ofNat 32 (128 * a.val + r.val) := by
    simp only [IntOp.addi, IntOp.muli]
    rw [show (128#32 : BitVec 32) = BitVec.ofNat 32 128 from rfl, ← BitVec.ofNat_mul, ← BitVec.ofNat_add, Nat.mul_comm]
  have et : (BitVec.ofNat 32 (128 * a.val + r.val)).toInt = ((128 * a.val + r.val : ℕ) : ℤ) := by
    rw [BitVec.toInt_eq_toNat_cond, BitVec.toNat_ofNat]
    have := a.isLt; have := r.isLt
    rw [Nat.mod_eq_of_lt (by omega), if_pos (by omega)]
  rw [e, eb, et, Int.cast_natCast]

/-! ## The loop -/

/-- The entries after `n` trips. -/
def aState : ℕ → FVec Ideal S40x128x128 .f32
  | 0 => v
  | n + 1 => k0_pay203 c (aState n)

/-- What holds at first and is kept by every step holds at the end. -/
theorem foldl_ind {σ : Type} (n : ℕ) (g : Fin n → σ → σ) (P : ℕ → σ → Prop) (init : σ) (h0 : P 0 init)
    (hs : ∀ (k : Fin n) s, P k.val s → P (k.val + 1) (g k s)) : P n ((List.finRange n).foldl (fun acc k => g k acc) init) := by
  induction n with
  | zero => exact h0
  | succ n ih =>
    rw [List.finRange_succ_last, List.foldl_append, List.foldl_map]
    exact hs (Fin.last n) _ (ih (fun k s => g k.castSucc s) fun k s h => hs k.castSucc s h)

/-- The loop's rows: row `r` holds what trip `r` picked. -/
theorem exact_apply (r : Fin 50) (l : Fin 128) :
    (exact c v).2.1 (ix2 r l) = aArg c (aState c v r) (ix2 0 l) ∧ (exact c v).2.2 (ix2 r l) = aMin (aState c v r) (ix2 0 l) := by
  have h := foldl_ind k0_t1_loop.trips (trip (F := Ideal) c)
    (fun n s => s.1 = aState c v n ∧ ∀ (r : Fin 50) (l : Fin 128), r.val < n →
      s.2.1 (ix2 r l) = aArg c (aState c v r) (ix2 0 l) ∧ s.2.2 (ix2 r l) = aMin (aState c v r) (ix2 0 l))
    (v, k0_pay197, k0_pay198) ⟨rfl, fun r l hr => absurd hr (Nat.not_lt_zero _)⟩ (by
      rintro k s ⟨h1, h2⟩
      refine ⟨congrArg (k0_pay203 c) h1, fun r l hr => ?_⟩
      show k0_pay201 c k s.1 s.2.1 (ix2 r l) = _ ∧ k0_pay202 k s.1 s.2.2 (ix2 r l) = _
      rw [rowI_apply, rowD_apply, h1]
      by_cases hk : r.val = k.val
      · rw [if_pos hk, if_pos hk, hk]; exact ⟨rfl, rfl⟩
      · rw [if_neg hk, if_neg hk]; exact h2 r l (by omega))
  rw [exact, Scf.fold_eq]
  exact h.2 r l (lt_of_lt_of_eq r.isLt (by decide))

/-! ## The pool at an index -/

/-- Eight blocks stacked, read at an index. -/
theorem stack8_apply (f : Fin 8 → FVec Ideal S40x128 .f32)
    (h : Shape.Concatenates ((List.ofFn fun n : Fin 8 => (⟨S40x128, f n⟩ : (s : Shape) × (s.Idx → Ideal .f32))).map (·.1)) S320x128 0)
    (a : Fin 40) (n : Fin 8) (l : Fin 128) :
    concatenate S320x128 0 (List.ofFn fun n : Fin 8 => (⟨S40x128, f n⟩ : (s : Shape) × (s.Idx → Ideal .f32))) h
      (ix2 ⟨40 * n.val + a.val, by omega⟩ l) = f n (ix2 a l) :=
  concatenate_ofFn_apply (t := S320x128) (s₁ := S40x128) (0 : Fin 2) f h rfl 40 rfl _ n (by show (40 * n.val + a.val) / 40 = n.val; omega) _
    (by show a.val = (40 * n.val + a.val) % 40; omega) (by
      intro b hb
      match b with
      | ⟨0, _⟩ => exact absurd rfl hb
      | ⟨1, _⟩ => rfl)

/-- The pool's entries, round by round. -/
theorem poolV_apply (a : Fin 40) (n : Fin 8) (l : Fin 128) :
    poolV c v (ix2 ⟨40 * n.val + a.val, by omega⟩ l) = cMin (cState c v n) (ix2 a l) :=
  stack8_apply (fun n => cMin (cState c v n)) concatenates_S40x128_S40x128_S40x128_S40x128_S40x128_S40x128_S40x128_S40x128_S320x128_d0 a n l

/-- The pool's numbers, round by round. -/
theorem poolC_apply (a : Fin 40) (n : Fin 8) (l : Fin 128) :
    poolC c v (ix2 ⟨40 * n.val + a.val, by omega⟩ l) = cArg c (cState c v n) (ix2 a l) :=
  stack8_apply (fun n => cArg c (cState c v n)) concatenates_S40x128_S40x128_S40x128_S40x128_S40x128_S40x128_S40x128_S40x128_S320x128_d0 a n l

/-- Fifty rows stacked, read at an index. -/
theorem stack50_apply (f : Fin 50 → FVec Ideal S1x128 .f32) (n : Fin 50) (l : Fin 128) :
    concatenate S50x128 0 (List.ofFn fun n : Fin 50 => (⟨S1x128, f n⟩ : (s : Shape) × (s.Idx → Ideal .f32))) (rows50 f)
      (ix2 n l) = f n (ix2 0 l) :=
  concatenate_ofFn_apply (t := S50x128) (s₁ := S1x128) (0 : Fin 2) f (rows50 f) rfl 1 rfl _ n (Nat.div_one _) _
    (Nat.mod_one _).symm (by
      intro b hb
      match b with
      | ⟨0, _⟩ => exact absurd rfl hb
      | ⟨1, _⟩ => rfl)

/-- The numbers picked from the pool. -/
theorem topI_apply (e w : FVec Ideal S320x128 .f32) (n : Fin 50) (l : Fin 128) : topI e w (ix2 n l) = pArg e (pState e w n) (ix2 0 l) :=
  stack50_apply (fun n => pArg e (pState e w n)) n l

/-- The entries picked from the pool. -/
theorem topD_apply (e w : FVec Ideal S320x128 .f32) (n : Fin 50) (l : Fin 128) : topD e w (ix2 n l) = pMin (pState e w n) (ix2 0 l) :=
  stack50_apply (fun n => pMin (pState e w n)) n l

end Cert.Knn

end
-- ==== Proof.LaneTest.lean ====
/-
  The test between the kernel's two selections: where it passes, in every lane the pool's fiftieth entry is under every
  entry left out of the pool.
-/
module

public import proofs.«01_k».proof.Proof.Model
public import proofs.«01_k».proof.Proof.Lane
public import Idealize.ShloMosaic.Lib.Pointwise
public import Idealize.ShloMosaic.Lib.Pipeline.Value

@[expose] public section

set_option maxRecDepth 16384

noncomputable section

namespace Cert.Knn

open Idealize.ShloMosaic Idealize.SL.Sem Cert.KernelIdeal Cert.KernelIdeal.Gen Cert.Knn.Select

variable (c v : FVec Ideal S40x128x128 .f32)

/-! ## The test -/

/-- Whether the last row of `t` is under `s` in every lane. -/
def test (t : FVec Ideal S50x128 .f32) (s : FVec Ideal S1x128 .f32) : Ideal .f32 :=
  extractAt ![0, 0, 0] (shapeCast S1x1x1 (multiReduction .minimumf [1, 2] S1
    (shapeCast S1x1x128 (select (cmpf .olt (extractStridedSlice S1x128 ![49, 0] t slices_S50x128_o49_0_S1x128)
      s) (broadcast S1x128 (Scalar.ofBits (F := Ideal) .f32 0x3F800000#32)) (broadcast S1x128 (Scalar.ofBits .f32 0x00000000#32)))
      shapeCasts_S1x128_S1x1x128) 0x7F800000#32 reduces_S1x1x128_S1 (.inl rfl) rfl) shapeCasts_S1_S1x1x1) inpos_S1x1x1_p0_0_0

/-- The test's value is at most one where a lane passes and at most zero where it fails. -/
theorem test_le (t : FVec Ideal S50x128 .f32) (s : FVec Ideal S1x128 .f32) (l : Fin 128) :
    test t s ≤ if t (ix2 49 l) < s (ix2 0 l) then (1 : EReal) else 0 := by
  have e : (select (cmpf .olt (extractStridedSlice S1x128 ![49, 0] t slices_S50x128_o49_0_S1x128)
      s) (broadcast S1x128 (Scalar.ofBits (F := Ideal) .f32 0x3F800000#32)) (broadcast S1x128 (Scalar.ofBits .f32 0x00000000#32))) (ix2 0 l)
      = if t (ix2 49 l) < s (ix2 0 l) then (1 : EReal) else 0 := by
    pointwise
  rw [← e]
  unfold test
  generalize (select (cmpf .olt (extractStridedSlice S1x128 ![49, 0] t slices_S50x128_o49_0_S1x128)
      s) (broadcast S1x128 (Scalar.ofBits (F := Ideal) .f32 0x3F800000#32)) (broadcast S1x128 (Scalar.ofBits .f32 0x00000000#32))) = w
  have ew : shapeCast S1x1x128 w shapeCasts_S1x128_S1x1x128 (ix3 0 0 l) = w (ix2 0 l) := by pointwise
  rw [← ew]
  generalize shapeCast S1x1x128 w shapeCasts_S1x128_S1x1x128 = x
  have ex : ∀ y : FVec Ideal S1 .f32, extractAt ![0, 0, 0] (shapeCast S1x1x1 y shapeCasts_S1_S1x1x1) inpos_S1x1x1_p0_0_0 = y (ix1 0) := by
    intro y; pointwise
  rw [ex]
  refine (le_of_eq (multiReduction_minimumf_eq_fold x 0x7F800000#32 reduces_S1x1x128_S1 (.inl rfl) rfl (ix1 0))).trans ?_
  refine (Finset.fold_min_le _).mpr (Or.inr ⟨ix3 0 0 l, ?_, le_rfl⟩)
  refine Finset.mem_filter.mpr ⟨Finset.mem_univ _, ?_⟩
  haveI : Subsingleton S1.Idx := ⟨fun i j => (eq_ix1 i).trans ((congrArg ix1 (Subsingleton.elim (α := Fin 1) (i 0) (j 0))).trans (eq_ix1 j).symm)⟩
  exact Subsingleton.elim _ _

/-- The flag is the test on the pool's last pick and the least entry that the chunks kept back. -/
theorem valid_eq : valid c v = Scalar.cmpi .ne (Scalar.extui (Scalar.cmpf .ogt (test (topD (poolC c v) (poolV c v)) (aMin (cState c v 8)))
    (Scalar.ofBits .f32 0x00000000#32))) 0#32 := by
  unfold valid test
  with_reducible rfl

/-- If the test is positive, every lane passes. -/
theorem pass (t : FVec Ideal S50x128 .f32) (s : FVec Ideal S1x128 .f32)
    (h : Scalar.cmpf .ogt (test t s) (Scalar.ofBits .f32 0x00000000#32) = 1#1) (l : Fin 128) : t (ix2 49 l) < s (ix2 0 l) := by
  by_contra hc
  have h0 : test t s ≤ 0 := (test_le t s l).trans (le_of_eq (if_neg hc))
  have e : Scalar.cmpf .ogt (test t s) (Scalar.ofBits .f32 0x00000000#32) = 0#1 := by
    show Ideal.cmp .ogt (test t s) (Ideal.ofBits .f32 0x00000000#32) = 0#1
    rw [Ideal.ofBits_zero_f32]
    simp [Ideal.cmp, not_lt.mpr h0]
  rw [e] at h
  exact absurd h (by decide)

/-- A flag widened and compared with zero is the flag. -/
theorem widened (x : BitVec 1) (h : Scalar.cmpi .ne (Scalar.extui x) 0#32 = 1#1) : x = 1#1 := by
  revert x; decide

/-- If the flag is set, the pool's last pick is below what every chunk kept back, in every lane. -/
theorem valid_spec (h : valid c v = 1#1) (l : Fin 128) : topD (poolC c v) (poolV c v) (ix2 49 l) < aMin (cState c v 8) (ix2 0 l) :=
  pass _ _ (widened _ ((valid_eq c v).symm.trans h)) l

end Cert.Knn

end
-- ==== Proof.LaneChosen.lean ====
/-
  What the kernel's body selects at one lane: whichever way it goes, the fifty next rows and their entries.
-/
module

public import proofs.«01_k».proof.Proof.LaneTest

@[expose] public section

set_option maxRecDepth 16384

noncomputable section

namespace Cert.Knn

open Idealize.ShloMosaic Idealize.SL.Sem Cert.KernelIdeal Cert.KernelIdeal.Gen Cert.Knn.Select

/-- The large number that stands for "no entry". -/
abbrev none30 : EReal := (big : Ideal .f32)

/-- Lane `l` of the entries `v`: row `k`'s entry is `d k` for the first 5000 rows, all of them under the large number, and
    the rows past those hold the large number. -/
structure LaneOf (v : FVec Ideal S40x128x128 .f32) (l : Fin 128) (d : ℕ → EReal) : Prop where
  on : ∀ (a : Fin 40) (r : Fin 128), 128 * a.val + r.val < 5000 → v (ix3 a r l) = d (128 * a.val + r.val)
  off : ∀ (a : Fin 40) (r : Fin 128), ¬ 128 * a.val + r.val < 5000 → v (ix3 a r l) = none30
  lt : ∀ k, k < 5000 → d k < none30

variable (v : FVec Ideal S40x128x128 .f32) (l : Fin 128) {d : ℕ → EReal}

/-- The table of row numbers: `c` has row `128a + r`'s number at chunk `a`, place `r`. -/
def Numbers (c : FVec Ideal S40x128x128 .f32) (l : Fin 128) : Prop := ∀ a r, c (ix3 a r l) = num (128 * a.val + r.val)

variable (c : FVec Ideal S40x128x128 .f32) (hc : Numbers c l)

/-! ## Rounds over all rows -/

include hc in
/-- The loop's trips, at a lane, are rounds over all rows. -/
theorem rounds_all : Rounds none30 (fun x : Fin 40 × Fin 128 => 128 * x.1.val + x.2.val) (fun n x => aState c v n (ix3 x.1 x.2 l))
    (fun n => aMin (aState c v n) (ix2 0 l)) (fun n => aArg c (aState c v n) (ix2 0 l)) where
  least n := aMin_least _ l
  first n := by
    have h := aArg_least c (aState c v n) l
    simp only [show ∀ a r, c (ix3 a r l) = num (128 * a.val + r.val) from hc] at h
    exact h
  step n x := by
    have h := mask_apply c (aState c v n) x.1 x.2 l
    rw [hc] at h
    exact h

/-- The entries list the first 5000 rows. -/
theorem lists_all (h : LaneOf v l d) :
    Lists none30 d (Finset.range 5000) (fun x : Fin 40 × Fin 128 => 128 * x.1.val + x.2.val) (fun x => v (ix3 x.1 x.2 l)) where
  onto k hk := by
    have := Finset.mem_range.mp hk
    exact ⟨(⟨k / 128, by omega⟩, ⟨k % 128, by omega⟩), by show 128 * (k / 128) + k % 128 = k; omega⟩
  on x hx := h.on x.1 x.2 (Finset.mem_range.mp hx)
  off x hx := h.off x.1 x.2 fun hc => hx (Finset.mem_range.mpr hc)

include hc in
/-- The loop picks the fifty next rows. -/
theorem exact_lane (h : LaneOf v l d) : ∃ p : ℕ → ℕ, Picks d (Finset.range 5000) 50 p
    ∧ ∀ n : Fin 50, (exact c v).2.1 (ix2 n l) = num (p n) ∧ (exact c v).2.2 (ix2 n l) = d (p n) := by
  obtain ⟨hp, hn⟩ := (rounds_all v l c hc).picks_of_card (lists_all v l h) (fun k hk => h.lt k (Finset.mem_range.mp hk))
    (fun x => by have := x.1.isLt; have := x.2.isLt; omega) (N := 50) (by rw [Finset.card_range]; omega)
  refine ⟨_, hp, fun n => ?_⟩
  obtain ⟨e1, e2⟩ := exact_apply c v n l
  rw [e1, e2]
  exact ⟨(hn n n.isLt).2, (hn n n.isLt).1⟩

/-! ## Rounds over a chunk -/

/-- A chunk's rows. -/
def chunk (a : Fin 40) : Finset ℕ := (Finset.range 5000).filter fun k => k / 128 = a.val

/-- Every chunk has at least eight rows. -/
theorem card_chunk (a : Fin 40) : 8 ≤ (chunk a).card := by
  have hi : Function.Injective fun r : ℕ => 128 * a.val + r := fun r s h => by simp only at h; omega
  have hs : (Finset.range 8).image (fun r => 128 * a.val + r) ⊆ chunk a := fun k hk => by
    obtain ⟨r, hr, rfl⟩ := Finset.mem_image.mp hk
    have := Finset.mem_range.mp hr
    have := a.isLt
    exact Finset.mem_filter.mpr ⟨Finset.mem_range.mpr (by omega), by omega⟩
  have := Finset.card_le_card hs
  rwa [Finset.card_image_of_injective _ hi, Finset.card_range] at this

include hc in
/-- The rounds over a chunk, at a lane, are rounds. -/
theorem rounds_chunk (a : Fin 40) : Rounds none30 (fun r : Fin 128 => 128 * a.val + r.val) (fun n r => cState c v n (ix3 a r l))
    (fun n => cMin (cState c v n) (ix2 a l)) (fun n => cArg c (cState c v n) (ix2 a l)) where
  least n := cMin_least _ a l
  first n := by
    have h := cArg_least c (cState c v n) a l
    simp only [show ∀ a r, c (ix3 a r l) = num (128 * a.val + r.val) from hc] at h
    exact h
  step n r := by
    have h := cUp_apply c (cState c v n) a r l
    rw [hc] at h
    exact h

/-- A chunk's entries list its rows. -/
theorem lists_chunk (h : LaneOf v l d) (a : Fin 40) :
    Lists none30 d (chunk a) (fun r : Fin 128 => 128 * a.val + r.val) (fun r => v (ix3 a r l)) where
  onto k hk := by
    obtain ⟨_, hka⟩ := Finset.mem_filter.mp hk
    exact ⟨⟨k % 128, by omega⟩, by show 128 * a.val + k % 128 = k; omega⟩
  on r hr := h.on a r (Finset.mem_range.mp (Finset.mem_filter.mp hr).1)
  off r hr := h.off a r fun hc => hr (Finset.mem_filter.mpr ⟨Finset.mem_range.mpr hc, by have := r.isLt; show (128 * a.val + r.val) / 128 = a.val; omega⟩)

/-- The rows a chunk gives to the pool. -/
def given (a : Fin 40) : ℕ → ℕ := picks fun n => cArg c (cState c v n) (ix2 a l)

/-- A chunk's entries are below the mark. -/
theorem chunk_lt (h : LaneOf v l d) (a : Fin 40) : ∀ k ∈ chunk a, d k < none30 := fun k hk =>
  h.lt k (Finset.mem_range.mp (Finset.mem_filter.mp hk).1)

/-- A chunk's columns are columns of the table. -/
theorem chunk_le (a : Fin 40) (r : Fin 128) : 128 * a.val + r.val ≤ 5120 := by
  have := a.isLt; have := r.isLt; omega

include hc in
/-- A chunk gives its eight next rows, and the pool has their entries and numbers. -/
theorem given_spec (h : LaneOf v l d) (a : Fin 40) : Picks d (chunk a) 8 (given v l c a)
    ∧ ∀ n < 8, cMin (cState c v n) (ix2 a l) = d (given v l c a n) ∧ cArg c (cState c v n) (ix2 a l) = num (given v l c a n) :=
  (rounds_chunk v l c hc a).picks_of_card (lists_chunk v l h a) (chunk_lt v l h a) (chunk_le a) (card_chunk a)

/-! ## Rounds over the pool -/

/-- The row number at a place of the pool. -/
def poolRow (x : Fin 320) : ℕ := given v l c ⟨x.val % 40, by omega⟩ (x.val / 40)

/-- A place of the pool by its round and its chunk. -/
theorem place (x : Fin 320) : ∃ (n : Fin 8) (a : Fin 40), x = ⟨40 * n.val + a.val, by omega⟩ :=
  ⟨⟨x.val / 40, by omega⟩, ⟨x.val % 40, by omega⟩, Fin.ext (by show x.val = 40 * (x.val / 40) + x.val % 40; omega)⟩

/-- The row at a place given by its round and its chunk. -/
theorem poolRow_at (n : ℕ) (hn : n < 8) (a : Fin 40) : poolRow v l c ⟨40 * n + a.val, by omega⟩ = given v l c a n := by
  have ea : (⟨(40 * n + a.val) % 40, by omega⟩ : Fin 40) = a := Fin.ext (by show (40 * n + a.val) % 40 = a.val; omega)
  have en : (40 * n + a.val) / 40 = n := by omega
  show given v l c ⟨(40 * n + a.val) % 40, _⟩ ((40 * n + a.val) / 40) = _
  rw [ea, en]

include hc in
/-- The pool's row numbers. -/
theorem pool_row (h : LaneOf v l d) (x : Fin 320) : poolC c v (ix2 x l) = num (poolRow v l c x) := by
  obtain ⟨n, a, rfl⟩ := place x
  rw [poolC_apply, ((given_spec v l c hc h a).2 n n.isLt).2, poolRow_at v l c n n.isLt a]

include hc in
/-- The pool's entries. -/
theorem pool_entry (h : LaneOf v l d) (x : Fin 320) : poolV c v (ix2 x l) = d (poolRow v l c x) := by
  obtain ⟨n, a, rfl⟩ := place x
  rw [poolV_apply, ((given_spec v l c hc h a).2 n n.isLt).1, poolRow_at v l c n n.isLt a]

include hc in
/-- The rounds over the pool, at a lane, are rounds. -/
theorem rounds_pool (h : LaneOf v l d) : Rounds none30 (poolRow v l c) (fun n x => pState (poolC c v) (poolV c v) n (ix2 x l))
    (fun n => pMin (pState (poolC c v) (poolV c v) n) (ix2 0 l)) (fun n => pArg (poolC c v) (pState (poolC c v) (poolV c v) n) (ix2 0 l)) where
  least n := pMin_least _ l
  first n := by
    have h' := pArg_least (poolC c v) (pState (poolC c v) (poolV c v) n) l
    simp only [pool_row v l c hc h] at h'
    exact h'
  step n x := by
    have h' := pUp_apply (poolC c v) (pState (poolC c v) (poolV c v) n) x l
    rw [pool_row v l c hc h] at h'
    exact h'

include hc in
/-- Where the test passes, the rounds over the pool pick the fifty next rows. -/
theorem pool_lane (h : LaneOf v l d) (hv : valid c v = 1#1) : ∃ p : ℕ → ℕ, Picks d (Finset.range 5000) 50 p
    ∧ ∀ n : Fin 50, topI (poolC c v) (poolV c v) (ix2 n l) = num (p n) ∧ topD (poolC c v) (poolV c v) (ix2 n l) = d (p n) := by
  have hlast := valid_spec c v hv l
  rw [topD_apply] at hlast
  have hmin := aMin_least (cState c v 8) l
  have hleft := fun a => (rounds_chunk v l c hc a).lists (lists_chunk v l h a) (chunk_lt v l h a) (chunk_le a) 8
  obtain ⟨hp, hn⟩ := picks_of_pool (T := Finset.range 5000) (C := chunk) (R := 8) (N := 49) (b := none30)
    (s := aMin (cState c v 8) (ix2 0 l)) (q := given v l c)
    (fun k => ⟨fun hk => ⟨⟨k / 128, by have := Finset.mem_range.mp hk; omega⟩, Finset.mem_filter.mpr ⟨hk, rfl⟩⟩,
      fun ⟨a, ha⟩ => (Finset.mem_filter.mp ha).1⟩)
    (fun a => (given_spec v l c hc h a).1) (fun k hk => h.lt k (Finset.mem_range.mp hk))
    (fun a k hk => by
      obtain ⟨r, hr⟩ := (hleft a).onto k hk
      have e := (hleft a).on r (by rw [hr]; exact hk)
      rw [hr] at e
      exact (hmin.1 (a, r)).trans (le_of_eq e))
    (by
      have e := (hleft 39).off 127 (fun hc => absurd (Finset.mem_range.mp (Finset.mem_filter.mp (mem_left.mp hc).1).1) (by decide))
      exact (hmin.1 (39, 127)).trans (le_of_eq e))
    (rounds_pool v l c hc h)
    (fun a n hn => ⟨⟨40 * n + a.val, by omega⟩, poolRow_at v l c n hn a⟩)
    (fun x => ⟨⟨x.val % 40, by omega⟩, x.val / 40, by omega, rfl⟩)
    (fun x => pool_entry v l c hc h x)
    (fun x => by
      have := Finset.mem_range.mp (Finset.mem_filter.mp ((given_spec v l c hc h ⟨x.val % 40, by omega⟩).1.mem (n := x.val / 40) (by omega))).1
      exact (le_of_lt this).trans (by decide))
    hlast
  refine ⟨_, hp, fun n => ?_⟩
  rw [topI_apply, topD_apply]
  exact ⟨(hn n n.isLt).2, (hn n n.isLt).1⟩

/-- What the body takes where the test passes. -/
theorem chosen_pooled (hv : valid c v = 1#1) : chosen c v = (topI (poolC c v) (poolV c v), topD (poolC c v) (poolV c v)) := if_pos hv

/-- What the body takes where the test fails. -/
theorem chosen_widened (hv : ¬ valid c v = 1#1) : chosen c v = ((exact c v).2.1, (exact c v).2.2) := if_neg hv

include hc in
/-- Whichever selection the body takes, a lane's fifty rows are the fifty next ones, with their entries. -/
theorem chosen_lane (h : LaneOf v l d) : ∃ p : ℕ → ℕ, Picks d (Finset.range 5000) 50 p
    ∧ ∀ n : Fin 50, (chosen c v).1 (ix2 n l) = num (p n) ∧ (chosen c v).2 (ix2 n l) = d (p n) := by
  by_cases hv : valid c v = 1#1
  · rw [chosen_pooled v c hv]; exact pool_lane v l c hc h hv
  · rw [chosen_widened v c hv]; exact exact_lane v l c hc h

end Cert.Knn

end
-- ==== Proof.Dist.lean ====
/-
  The distances between points, over the reals: what both programs compute for a pair of points, the entries that
  both select by, and the attribute of a pair. No program appears here.
-/
module

public import proofs.«01_k».proof.Proof.Select
public import Idealize.ShloMosaic.PureOps.Ideal.Laws

@[expose] public section

set_option maxRecDepth 16384

noncomputable section

namespace Cert.Knn.Dist

open Idealize.ShloMosaic Cert.Knn.Select

/-! ## Constants -/

/-- The number under the square root beside the squared distance. -/
def eps : ℝ := 9223372 / 2 ^ 63

/-- The number under the root is positive. -/
theorem eps_pos : 0 < eps := by unfold eps; positivity

/-- The word of two. -/
theorem bits_two : Ideal.ofBits .f32 1073741824#32 = ((2 : ℝ) : EReal) := by
  simp [Ideal.ofBits, Ideal.ieee, -EReal.coe_mul]; norm_num
/-- The word of the number under the root. -/
theorem bits_eps : Ideal.ofBits .f32 730643660#32 = (eps : EReal) := by
  simp [Ideal.ofBits, Ideal.ieee, -EReal.coe_mul, eps]; norm_num
/-- The word that keeps a point from being its own neighbour. -/
theorem bits_self : Ideal.ofBits .f32 1343554297#32 = ((10000000000 : ℝ) : EReal) := by
  simp [Ideal.ofBits, Ideal.ieee, -EReal.coe_mul]; norm_num
/-- The word that marks a column as taken. -/
theorem bits_big : Ideal.ofBits .f32 1900671690#32 = ((13234890 * 2 ^ 76 : ℝ) : EReal) := by
  simp [Ideal.ofBits, Ideal.ieee, -EReal.coe_mul]
/-- The word of the space between two bins. -/
theorem bits_step : Ideal.ofBits .f32 1075838976#32 = ((5 / 2 : ℝ) : EReal) := by
  simp [Ideal.ofBits, Ideal.ieee, -EReal.coe_mul]; norm_num
/-- The word of twice the squared width. -/
theorem bits_width : Ideal.ofBits .f32 1095237632#32 = ((25 / 2 : ℝ) : EReal) := by
  simp [Ideal.ofBits, Ideal.ieee, -EReal.coe_mul]; norm_num

/-! ## Distances -/

variable (P : ℕ → Fin 3 → ℝ)

/-- The squared distance of points `q` and `j`. -/
def off (q j : ℕ) : ℝ := ∑ x, (P j x - P q x) ^ 2

/-- A squared distance is not negative. -/
theorem off_nonneg (q j : ℕ) : 0 ≤ off P q j := Finset.sum_nonneg fun _ _ => sq_nonneg _

/-- It is the same from either end. -/
theorem off_comm (q j : ℕ) : off P q j = off P j q := Finset.sum_congr rfl fun x _ => by ring

/-- A point is at distance zero from itself. -/
theorem off_self (q : ℕ) : off P q q = 0 := by simp [off]

/-- The entry of column `j` in row `q`: the squared distance, and for the point itself a large number more. -/
def far (q j : ℕ) : EReal := ((off P q j + (if j = q then 10000000000 else 0) : ℝ) : EReal)

/-- The squared distance from the squares and the product. -/
theorem spread {A B : Fin 3 → EReal} {q j : ℕ} (hA : ∀ x, A x = (P j x : EReal)) (hB : ∀ x, B x = (P q x : EReal)) :
    (∑ x, A x * A x) + (∑ x, B x * B x) - ((2 : ℝ) : EReal) * ∑ x, A x * B x = (off P q j : EReal) := by
  simp only [hA, hB, Fin.sum_univ_three, ← EReal.coe_mul, ← EReal.coe_add, ← EReal.coe_sub, off]
  congr 1
  ring

/-- Every coordinate of the first 5000 points is within the bound. -/
def Within : Prop := ∀ j, j < 5000 → ∀ x, |P j x| ≤ 25000

variable {P} (hP : Within P)
include hP

/-- In range a squared distance is at most 7500000000. -/
theorem off_le {q j : ℕ} (hq : q < 5000) (hj : j < 5000) : off P q j ≤ 7500000000 := by
  have h : ∀ x, (P j x - P q x) ^ 2 ≤ 50000 ^ 2 := fun x => by
    have h1 := abs_le.mp (hP j hj x)
    have h2 := abs_le.mp (hP q hq x)
    exact sq_le_sq' (by linarith [h1.1, h2.2]) (by linarith [h1.2, h2.1])
  unfold off
  rw [Fin.sum_univ_three]
  linarith [h 0, h 1, h 2]

/-- Every entry is under the large number that stands for none. -/
theorem far_lt {q j : ℕ} (hq : q < 5000) (hj : j < 5000) : far P q j < Ideal.ofBits .f32 1900671690#32 := by
  rw [bits_big]
  unfold far
  rw [EReal.coe_lt_coe_iff]
  have := off_le hP hq hj
  split_ifs <;> norm_num <;> linarith

/-- The point itself is none of its fifty next ones. -/
theorem pick_ne {q : ℕ} (hq : q < 5000) {p : ℕ → ℕ} (hp : Picks (far P q) (Finset.range 5000) 50 p) {n : ℕ} (hn : n < 50) : p n ≠ q := by
  intro e
  have hc := card_left (Finset.range 5000) p n
  rw [Finset.card_range] at hc
  obtain ⟨j, hj, hne⟩ := Finset.exists_mem_ne (s := left (Finset.range 5000) p n) (by omega) q
  have hj' := Finset.mem_range.mp (mem_left.mp hj).1
  have hle : far P q q ≤ far P q j := by
    rcases (hp n hn).2 j hj with h | h
    · rw [e] at h; exact le_of_lt h
    · rw [e] at h; exact le_of_eq h.1
  unfold far at hle
  rw [EReal.coe_le_coe_iff, if_pos rfl, if_neg hne, off_self] at hle
  have := off_le hP hq hj'
  norm_num at hle
  linarith

/-- The entry of one of the fifty is its squared distance. -/
theorem far_pick {q : ℕ} (hq : q < 5000) {p : ℕ → ℕ} (hp : Picks (far P q) (Finset.range 5000) 50 p) {n : ℕ} (hn : n < 50) :
    far P q (p n) = (off P q (p n) : EReal) := by
  unfold far
  rw [if_neg (pick_ne hP hq hp hn), add_zero]

omit hP

variable (P)

/-- The next points of point `q`, nearest first. -/
def near (q m : ℕ) : ℕ :=
  if h : m < 5000 then (sortedFrom (fun k k' : Fin 5000 => decide (far P q k.val < far P q k'.val)) ⟨m, h⟩).val else 0

/-- They are the picks by the entries. -/
theorem near_picks (q : ℕ) : Picks (far P q) (Finset.range 5000) 50 (near P q) := fun n hn =>
  sort_picks (far P q) (fun k k' : Fin 5000 => decide (far P q k.val < far P q k'.val)) (fun _ _ => rfl) n (by omega)

/-- A near point is a point. -/
theorem near_lt (q : ℕ) {n : ℕ} (hn : n < 50) : near P q n < 5000 := Finset.mem_range.mp ((near_picks P q).mem hn)

/-! ## Edges -/

/-- The first end of edge `e`: a neighbour on the first half of the edges, the point itself on the second. -/
def first (e : ℕ) : ℕ := if e < 250000 then near P (e / 50) (e % 50) else (e - 250000) / 50

/-- The second end of edge `e`. -/
def second (e : ℕ) : ℕ := if e < 250000 then e / 50 else near P ((e - 250000) / 50) ((e - 250000) % 50)

/-- The squared distance of the ends of edge `e`. -/
def gap (e : ℕ) : ℝ :=
  if e < 250000 then off P (e / 50) (near P (e / 50) (e % 50)) else off P ((e - 250000) / 50) (near P ((e - 250000) / 50) ((e - 250000) % 50))

/-- The first end is a point. -/
theorem first_lt {e : ℕ} (he : e < 500000) : first P e < 5000 := by
  unfold first
  split
  · exact near_lt P _ (Nat.mod_lt _ (by norm_num))
  · omega

/-- The second end is a point. -/
theorem second_lt {e : ℕ} (he : e < 500000) : second P e < 5000 := by
  unfold second
  split
  · omega
  · exact near_lt P _ (Nat.mod_lt _ (by norm_num))

/-- The squared distance from either end. -/
theorem gap_eq (e : ℕ) : gap P e = off P (first P e) (second P e) := by
  unfold gap first second
  split
  · exact off_comm P _ _
  · rfl

/-- It is not negative. -/
theorem gap_nonneg (e : ℕ) : 0 ≤ gap P e := by rw [gap_eq]; exact off_nonneg P _ _

/-! ## Attributes -/

/-- The attribute of a pair of points at squared distance `o`, for centre `k`. -/
def att (o : ℝ) (k : ℕ) : EReal := ((Real.exp (-((Real.sqrt (o + eps) - 5 / 2 * k) ^ 2) / (25 / 2)) : ℝ) : EReal)

/-- The root of a squared distance and a small positive number. -/
theorem root {o : ℝ} (ho : 0 ≤ o) : Ideal.sqrt ((o : EReal) + (eps : EReal)) = ((Real.sqrt (o + eps) : ℝ) : EReal) := by
  rw [← EReal.coe_add, Ideal.sqrt_coe, if_neg (by linarith [eps_pos])]

/-- The bell of a real number. -/
theorem bell (y : ℝ) : Ideal.exp (Ideal.div ((-(y * y) : ℝ) : EReal) ((25 / 2 : ℝ) : EReal)) = ((Real.exp (-(y ^ 2) / (25 / 2)) : ℝ) : EReal) := by
  rw [Ideal.div_coe (by norm_num), ← EReal.coe_mul, Ideal.exp_coe]
  congr 2
  ring

end Cert.Knn.Dist

end
-- ==== Proof.KernelDist.lean ====
/-
  What the body leaves at a lane of a grid point: the fifty next points of the lane's point, and their attributes.
-/
module

public import proofs.«01_k».proof.Proof.LaneChosen
public import proofs.«01_k».proof.Proof.Dist

@[expose] public section

set_option maxRecDepth 16384

noncomputable section

namespace Cert.Knn

open Idealize.ShloMosaic Idealize.SL.Sem Cert.KernelIdeal Cert.KernelIdeal.Gen Cert.Knn.Select Cert.Knn.Dist

variable {P : ℕ → Fin 3 → ℝ} (hP : Within P)
variable (i : grid0.Coords) (x0 : Vec Ideal S5120x3 .f32) (x1 : Vec Ideal S3x128 .f32) (l : Fin 128)

/-- The point of lane `l` at grid point `i`. -/
abbrev point : ℕ := 128 * (i 0).val + l.val

/-- The entry of a row at a lane, before the self test: as the operations give it. -/
def plain (j : ℕ) : EReal :=
  if h : j < 5000 then
    ∑ x, x0 (ix2 ⟨j, by omega⟩ x) * x0 (ix2 ⟨j, by omega⟩ x) + ∑ x, x1 (ix2 x l) * x1 (ix2 x l)
      - Ideal.ofBits FTy.f32 1073741824#32 * ∑ x, x0 (ix2 ⟨j, by omega⟩ x) * x1 (ix2 x l)
  else Ideal.ofBits FTy.f32 1900671690#32

/-- The point's number, as the body computes it. -/
theorem point_num : (((Scalar.muli (BitVec.ofNat 32 (i 0).val) 128#32).toInt : ℝ) : EReal) + FloatOps.sitofp (F := Ideal) FTy.f32 (BitVec.ofNat 32 l.val)
    = num (point i l) := by
  have hi : (i 0).val < 40 := (i 0).isLt
  have hl := l.isLt
  have e1 : Scalar.muli (BitVec.ofNat 32 (i 0).val) 128#32 = BitVec.ofNat 32 (128 * (i 0).val) := by
    show IntOp.muli _ _ = _
    simp only [IntOp.muli]
    rw [show (128#32 : BitVec 32) = BitVec.ofNat 32 128 from rfl, ← BitVec.ofNat_mul, Nat.mul_comm]
  have et : ∀ n, n < 2 ^ 31 → (BitVec.ofNat 32 n).toInt = (n : ℤ) := fun n hn => by
    rw [BitVec.toInt_eq_toNat_cond, BitVec.toNat_ofNat, Nat.mod_eq_of_lt (by omega), if_pos (by omega)]
  show _ + (((BitVec.ofNat 32 l.val).toInt : ℝ) : EReal) = _
  rw [e1, et _ (by omega), et _ (by omega), ← EReal.coe_add]
  unfold num point
  push_cast
  rfl

/-- The table of entries, read at a row and a lane. -/
theorem entries_apply (a : Fin 40) (r : Fin 128) : k0_pay3 i x0 x1 (ix3 a r l)
    = if 128 * a.val + r.val = point i l then plain x0 x1 l (128 * a.val + r.val) + Ideal.ofBits FTy.f32 1343554297#32
      else plain x0 x1 l (128 * a.val + r.val) := by
  have e : k0_pay3 i x0 x1 (ix3 a r l) = if (k0_pay2 : FVec Ideal S40x128x128 .f32) (ix3 a r l)
        = (((Scalar.muli (BitVec.ofNat 32 (i 0).val) 128#32).toInt : ℝ) : EReal) + FloatOps.sitofp (F := Ideal) FTy.f32 (BitVec.ofNat 32 l.val)
      then plain x0 x1 l (a.val * 128 + r.val) + Ideal.ofBits FTy.f32 1343554297#32 else plain x0 x1 l (a.val * 128 + r.val) := by
    unfold plain
    pointwise [k0_pay3]
  rw [e, rows_apply, point_num, Nat.mul_comm a.val 128]
  exact if_congr num_inj rfl rfl

variable {x0 x1}

include hP in
/-- At a lane of a point, the entries are the ones that both programs select by. -/
theorem entries_lane (h0 : ∀ (j : Fin 5120) x, j.val < 5000 → x0 (ix2 j x) = (P j.val x : EReal))
    (h1 : ∀ x, x1 (ix2 x l) = (P (point i l) x : EReal)) (hq : point i l < 5000) :
    LaneOf (k0_pay3 i x0 x1) l (far P (point i l)) where
  on a r h := by
    rw [entries_apply]
    unfold plain far
    rw [dif_pos h, bits_two, spread P (fun x => h0 ⟨_, _⟩ x h) h1, bits_self]
    split_ifs with he
    · rw [← EReal.coe_add]
    · rw [add_zero]
  off a r h := by
    have hne : ¬ 128 * a.val + r.val = point i l := fun e => h (by rw [e]; exact hq)
    rw [entries_apply, if_neg hne]
    unfold plain
    rw [dif_neg h]
    rfl
  lt k hk := far_lt hP hq hk

/-! ## What is left -/

/-- A row's number, stored. -/
theorem stored_number (e : FVec Ideal S50x128 .f32) (n : Fin 50) {k : ℕ} (hk : k < 2 ^ 31) (h : e (ix2 n l) = num k) :
    k0_pay204 e (ix2 n l) = BitVec.ofNat 32 k := by
  have e1 : k0_pay204 e (ix2 n l) = FloatOps.fptosi (F := Ideal) (φ := .f32) 32 (e (ix2 n l)) := by pointwise [k0_pay204]
  rw [e1, h]
  show BitVec.ofInt 32 (Ideal.toIntClamped _ _ _) = _
  rw [Ideal.toIntClamped_coe, if_pos (Nat.cast_nonneg k), Int.floor_natCast, min_eq_right (by norm_num; omega), max_eq_right (by norm_num)]
  exact BitVec.ofInt_natCast 32 k

/-- An attribute, stored. -/
theorem stored_attribute (e : FVec Ideal S50x128 .f32) (n : Fin 50) (k : Fin 5) {o : ℝ} (ho : 0 ≤ o) (h : e (ix2 n l) = (o : EReal)) :
    k0_pay1 (k0_pay205 e) k0_pay206 k0_pay207 (ix3 n k l) = att o k.val := by
  have e1 : k0_pay1 (k0_pay205 e) k0_pay206 k0_pay207 (ix3 n k l) = Ideal.exp (Ideal.div (0 -
          (Ideal.sqrt (max (e (ix2 n l)) 0 + Ideal.ofBits FTy.f32 730643660#32)
              - FloatOps.sitofp (F := Ideal) FTy.f32 (BitVec.ofNat 32 k.val) * Ideal.ofBits FTy.f32 1075838976#32) *
            (Ideal.sqrt (max (e (ix2 n l)) 0 + Ideal.ofBits FTy.f32 730643660#32)
              - FloatOps.sitofp (F := Ideal) FTy.f32 (BitVec.ofNat 32 k.val) * Ideal.ofBits FTy.f32 1075838976#32))
        (Ideal.ofBits FTy.f32 1095237632#32)) := by
    pointwise [k0_pay1, k0_pay205, k0_pay206, k0_pay207]
  have ek : FloatOps.sitofp (F := Ideal) FTy.f32 (BitVec.ofNat 32 k.val) = ((k.val : ℝ) : EReal) := by
    show ((((BitVec.ofNat 32 k.val).toInt : ℤ) : ℝ) : EReal) = _
    have := k.isLt
    rw [BitVec.toInt_eq_toNat_cond, BitVec.toNat_ofNat, Nat.mod_eq_of_lt (by omega), if_pos (by omega), Int.cast_natCast]
  rw [e1, h, ek, max_eq_left (EReal.coe_nonneg.mpr ho), bits_eps, bits_step, bits_width, root ho, ← EReal.coe_mul, ← EReal.coe_sub, ← EReal.coe_mul,
    zero_sub, ← EReal.coe_neg, bell]
  unfold att
  rw [mul_comm (5 / 2 : ℝ)]

include hP in
/-- What the body leaves at a lane: the fifty next points of the lane's point, and their attributes. -/
theorem left_lane (h0 : ∀ (j : Fin 5120) x, j.val < 5000 → x0 (ix2 j x) = (P j.val x : EReal))
    (h1 : ∀ x, x1 (ix2 x l) = (P (point i l) x : EReal)) (hq : point i l < 5000) :
    ∀ n : Fin 50, outI i x0 x1 (ix2 n l) = BitVec.ofNat 32 (near P (point i l) n)
      ∧ ∀ k : Fin 5, outA i x0 x1 (ix3 n k l) = att (off P (point i l) (near P (point i l) n)) k.val := by
  obtain ⟨p, hp, h⟩ := chosen_lane (k0_pay3 i x0 x1) l k0_pay2 (fun a r => rows_apply a r l) (entries_lane hP i l h0 h1 hq)
  intro n
  rw [← hp.unique (near_picks P _) n n.isLt]
  refine ⟨?_, fun k => ?_⟩
  · have := Finset.mem_range.mp (hp.mem n.isLt)
    exact stored_number l _ n (by omega) (h n).1
  · exact stored_attribute l _ n k (off_nonneg P _ _) ((h n).2.trans (far_pick hP hq hp n.isLt))

end Cert.Knn

end
-- ==== Proof.BodyIdeal.lean ====
/-
  The idealized kernel's body is two loads, the pure functions of Model.lean, and two stores.
-/
module

public import proofs.«01_k».proof.Proof.Model
@[expose] public section

set_option maxRecDepth 65536

noncomputable section

namespace Cert.KernelIdeal.Body

open Idealize.ShloMosaic Idealize.SL.Sem Cert.KernelIdeal Cert.KernelIdeal.Gen Cert.Knn

variable {F : FTy → Type} [FloatOps F]

/-- The choice between the two selections and the store of the neighbours, as the program states them: the loop is
    still a loop. It returns the chosen entries. -/
def choice (c v : FVec F S40x128x128 .f32) (arg3 : Memref sig .tc .vmem S50x128 .i32) :
    Prog (TpuEff nD τ sig (Elt F) Λ₀ .tc) (Σ' (_ : FVec F S50x128 .f32) (_ : FVec F S1x5x1 .f32), FVec F S1x5x1 .f32) := do
  let (a, b) : FVec F S50x128 .f32 × FVec F S50x128 .f32 ← if valid c v = 1#1 then do
      pure (topI (poolC c v) (poolV c v), topD (poolC c v) (poolV c v))
    else do
      let (_, x, y) ← Scf.Loop.for k0_t1_loop k0_t1_ok (v, k0_pay197 (F := F), k0_pay198 (F := F)) (fun k s => pure (trip c k s))
      pure (x, y)
  let _ : Vec F S50x128 .i32 ← Prog.lift (.load arg3 (Rect.unit (s := S50x128) ![0, 0] S50x128.size inb_S50x128_S50x128_0_0).toLoadRect (View.loadsAt_vmem h_S50x128))
  Prog.lift (.store arg3 (Rect.unit (s := S50x128) ![0, 0] S50x128.size inb_S50x128_S50x128_0_0) (k0_pay204 a) Finset.univ (View.stores_vmem_bits_univ h_S50x128 rfl) (.inl rfl))
  pure ⟨k0_pay205 b, k0_pay206, k0_pay207⟩

/-- The same with the loop replaced by its result: no control flow is left. -/
theorem choice_eq (c v : FVec F S40x128x128 .f32) (arg3 : Memref sig .tc .vmem S50x128 .i32) :
    choice c v arg3 = (do
      let _ : Vec F S50x128 .i32 ← Prog.lift (.load arg3 (Rect.unit (s := S50x128) ![0, 0] S50x128.size inb_S50x128_S50x128_0_0).toLoadRect (View.loadsAt_vmem h_S50x128))
      Prog.lift (.store arg3 (Rect.unit (s := S50x128) ![0, 0] S50x128.size inb_S50x128_S50x128_0_0) (k0_pay204 (chosen c v).1) Finset.univ (View.stores_vmem_bits_univ h_S50x128 rfl) (.inl rfl))
      pure ⟨k0_pay205 (chosen c v).2, k0_pay206, k0_pay207⟩) := by
  have hl : Scf.Loop.for (E := TpuEff nD τ sig (Elt F) Λ₀ .tc) k0_t1_loop k0_t1_ok (v, k0_pay197 (F := F), k0_pay198 (F := F))
      (fun k s => pure (trip c k s)) = Prog.ret (Scf.fold (trip c) (v, k0_pay197, k0_pay198)) :=
    Scf.for_pure _ _ _ _ _ _ (trip c) fun _ _ => rfl
  unfold choice chosen exact
  by_cases h : valid c v = 1#1
  · simp only [if_pos h]; rfl
  · simp only [if_neg h, hl]; rfl

/-- The body with the choice as one step. -/
def folded (i : grid0.Coords) (arg1 : Memref sig .tc .vmem S5120x3 .f32) (arg2 : Memref sig .tc .vmem S3x128 .f32)
    (arg3 : Memref sig .tc .vmem S50x128 .i32) (arg4 : Memref sig .tc .vmem S50x5x128 .f32) :
    Prog (TpuEff nD τ sig (Elt F) Λ₀ .tc) PUnit := do
  let v0 : Vec F S5120x3 .f32 ← Prog.lift (.load arg1 (Rect.unit (s := S5120x3) ![0, 0] S5120x3.size inb_S5120x3_S5120x3_0_0).toLoadRect (View.loadsAt_vmem h_S5120x3))
  let v2 : Vec F S3x128 .f32 ← Prog.lift (.load arg2 (Rect.unit (s := S3x128) ![0, 0] S3x128.size inb_S3x128_S3x128_0_0).toLoadRect (View.loadsAt_vmem h_S3x128))
  let r ← choice k0_pay2 (k0_pay3 i v0 v2) arg3
  let _ : Vec F S50x5x128 .f32 ← Prog.lift (.load arg4 (Rect.unit (s := S50x5x128) ![0, 0, 0] S50x5x128.size inb_S50x5x128_S50x5x128_0_0_0).toLoadRect (View.loadsAt_vmem h_S50x5x128))
  Prog.lift (.store arg4 (Rect.unit (s := S50x5x128) ![0, 0, 0] S50x5x128.size inb_S50x5x128_S50x5x128_0_0_0) (k0_pay1 r.1 r.2.1 r.2.2) Finset.univ (View.stores_vmem_bits_univ h_S50x5x128 rfl) (.inl rfl))
  pure ⟨⟩

/-- The printed body is `folded`: every value it names is one of Model.lean's, by unfolding. -/
theorem body_folded (i : grid0.Coords) (arg1 : Memref sig .tc .vmem S5120x3 .f32) (harg1 : arg1.IsWhole) (arg2 : Memref sig .tc .vmem S3x128 .f32) (harg2 : arg2.IsWhole)
    (arg3 : Memref sig .tc .vmem S50x128 .i32) (harg3 : arg3.IsWhole) (arg4 : Memref sig .tc .vmem S50x5x128 .f32) (harg4 : arg4.IsWhole) :
    cc0__knn_kernel (F := F) i arg1 harg1 arg2 harg2 arg3 harg3 arg4 harg4 = folded i arg1 arg2 arg3 arg4 := by
  rfl

/-- The body without control flow: two loads, and a store of each of Model.lean's two blocks. -/
def straight (i : grid0.Coords) (arg1 : Memref sig .tc .vmem S5120x3 .f32) (arg2 : Memref sig .tc .vmem S3x128 .f32)
    (arg3 : Memref sig .tc .vmem S50x128 .i32) (arg4 : Memref sig .tc .vmem S50x5x128 .f32) :
    Prog (TpuEff nD τ sig (Elt F) Λ₀ .tc) PUnit := do
  let v0 : Vec F S5120x3 .f32 ← Prog.lift (.load arg1 (Rect.unit (s := S5120x3) ![0, 0] S5120x3.size inb_S5120x3_S5120x3_0_0).toLoadRect (View.loadsAt_vmem h_S5120x3))
  let v2 : Vec F S3x128 .f32 ← Prog.lift (.load arg2 (Rect.unit (s := S3x128) ![0, 0] S3x128.size inb_S3x128_S3x128_0_0).toLoadRect (View.loadsAt_vmem h_S3x128))
  let _ : Vec F S50x128 .i32 ← Prog.lift (.load arg3 (Rect.unit (s := S50x128) ![0, 0] S50x128.size inb_S50x128_S50x128_0_0).toLoadRect (View.loadsAt_vmem h_S50x128))
  Prog.lift (.store arg3 (Rect.unit (s := S50x128) ![0, 0] S50x128.size inb_S50x128_S50x128_0_0) (outI i v0 v2) Finset.univ (View.stores_vmem_bits_univ h_S50x128 rfl) (.inl rfl))
  let _ : Vec F S50x5x128 .f32 ← Prog.lift (.load arg4 (Rect.unit (s := S50x5x128) ![0, 0, 0] S50x5x128.size inb_S50x5x128_S50x5x128_0_0_0).toLoadRect (View.loadsAt_vmem h_S50x5x128))
  Prog.lift (.store arg4 (Rect.unit (s := S50x5x128) ![0, 0, 0] S50x5x128.size inb_S50x5x128_S50x5x128_0_0_0) (outA i v0 v2) Finset.univ (View.stores_vmem_bits_univ h_S50x5x128 rfl) (.inl rfl))
  pure ⟨⟩

/-- The printed body is `straight`. -/
theorem body_eq (i : grid0.Coords) (arg1 : Memref sig .tc .vmem S5120x3 .f32) (harg1 : arg1.IsWhole) (arg2 : Memref sig .tc .vmem S3x128 .f32) (harg2 : arg2.IsWhole)
    (arg3 : Memref sig .tc .vmem S50x128 .i32) (harg3 : arg3.IsWhole) (arg4 : Memref sig .tc .vmem S50x5x128 .f32) (harg4 : arg4.IsWhole) :
    cc0__knn_kernel (F := F) i arg1 harg1 arg2 harg2 arg3 harg3 arg4 harg4 = straight i arg1 arg2 arg3 arg4 := by
  rw [body_folded]; unfold folded; simp only [choice_eq]; rfl

end Cert.KernelIdeal.Body

end
-- ==== Proof.RunIdeal.lean ====
/-
  The idealized kernel's launch: what its two output blocks hold after the body at a grid point, the body's
  triple, and the whole run with what it leaves in every array.
-/
module

public import proofs.«01_k».proof.Proof.BodyIdeal
public import proofs.«01_k».proof.Proof.Gen.KernelIdeal.Frame
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.Knn

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of each staging buffer. -/
abbrev all0 : Rect S5120x3 := Rect.unit (s := S5120x3) ![0, 0] S5120x3.size inb_S5120x3_S5120x3_0_0
/-- The whole block of the lanes' coordinates. -/
abbrev all1 : Rect S3x128 := Rect.unit (s := S3x128) ![0, 0] S3x128.size inb_S3x128_S3x128_0_0
/-- The whole block of the neighbours. -/
abbrev all2 : Rect S50x128 := Rect.unit (s := S50x128) ![0, 0] S50x128.size inb_S50x128_S50x128_0_0
/-- The whole block of the attributes. -/
abbrev all3 : Rect S50x5x128 := Rect.unit (s := S50x5x128) ![0, 0, 0] S50x5x128.size inb_S50x5x128_S50x5x128_0_0_0

/-- What the body at grid coordinates `i` leaves in the neighbours' buffer. -/
def left2 (i : grid0.Coords) (x0 : Vec F S5120x3 .f32) (x1 : Vec F S3x128 .f32) : Vec F S50x128 .i32 :=
  View.canon [⟨all2, outI i (View.ld x0 all0) (View.ld x1 all1)⟩]

/-- What it leaves in the attributes' buffer. -/
def left3 (i : grid0.Coords) (x0 : Vec F S5120x3 .f32) (x1 : Vec F S3x128 .f32) : Vec F S50x5x128 .f32 :=
  View.canon [⟨all3, outA i (View.ld x0 all0) (View.ld x1 all1)⟩]

/-- A store of the whole neighbours' buffer covers it. -/
theorem whole2 (p : Vec F S50x128 .i32) (y : S50x128.Idx) : ∃ pc ∈ ([⟨all2, p⟩] : List (View.Piece (Elt F) S50x128 .i32)), y ∈ pc.1.set :=
  View.cover_of_tiled [⟨all2, p⟩] S50x128.size (by rfl) y

/-- A store of the whole attributes' buffer covers it. -/
theorem whole3 (p : Vec F S50x5x128 .f32) (y : S50x5x128.Idx) : ∃ pc ∈ ([⟨all3, p⟩] : List (View.Piece (Elt F) S50x5x128 .f32)), y ∈ pc.1.set :=
  View.cover_of_tiled [⟨all3, p⟩] S50x5x128.size (by rfl) y

set_option maxHeartbeats 1000000 in
/-- The body on four whole staging buffers reads the first two, leaves them, and leaves `left2` and `left3` in the others. -/
theorem body_triple (c : Dev nD) (E : Set ℕ) (i : grid0.Coords) (arg1 : Memref sig .tc .vmem S5120x3 .f32) (harg1 : arg1.IsWhole) (arg2 : Memref sig .tc .vmem S3x128 .f32) (harg2 : arg2.IsWhole) (arg3 : Memref sig .tc .vmem S50x128 .i32) (harg3 : arg3.IsWhole) (arg4 : Memref sig .tc .vmem S50x5x128 .f32) (harg4 : arg4.IsWhole)
    (x0 : Vec F S5120x3 .f32) (x1 : Vec F S3x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (left2 i x0 x1) ∗ owns (c : Thread nD τ) arg4 fullShare (left3 i x0 x1)) -∗ K ⟨⟩))
      ⊢ wp frame (wpE (defs₀ (F := F)) Variants.none c none) E (cc0__knn_kernel i arg1 harg1 arg2 harg2 arg3 harg3 arg4 harg4) K := by
  rw [body_eq]; unfold straight
  unfold owns
  iintro ⟨⟨%g0, %hg0, B0⟩, ⟨%g1, %hg1, B1⟩, ⟨%d2, %g2, -, B2⟩, ⟨%d3, %g3, -, B3⟩, Hk⟩
  subst hg0 hg1
  sl_exec
  sl_step
  iapply Hk
  isplitl [B0]
  · iexists g0; isplitr; · ipureintro; rfl
    iexact B0
  isplitl [B1]
  · iexists g1; isplitr; · ipureintro; rfl
    iexact B1
  isplitl [B2]
  · iexists _; isplitr
    swap; · iexact B2
    ipureintro
    exact View.read_writes_eq_canon _ _ _ (whole2 _)
  iexists _; isplitr
  swap; · iexact B3
  ipureintro
  exact View.read_writes_eq_canon _ _ _ (whole3 _)

/-- The launch's proof data: the arrays as the region finds them; after the body at a point each input's buffer at its
    block and each output's at `left2`, `left3` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left2 (grid0.coords t) (iblk m c 0 t) (iblk m c 1 t)
    | ⟨3, _⟩ => left3 (grid0.coords t) (iblk m c 0 t) (iblk m c 1 t)
  Φ _ := Pipeline.ΦA spec0 c
  q _ := fullShare
  owed _ := 0

/-- The arrays the proof data starts from. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
/-- The lanes' block is left as it was. -/
theorem after_1 (c : Dev nD) (t : Fin cfg0.N) : (dats m 0 c).after 1 t = iblk m c 1 t := by dsimp only [dats]
/-- The neighbours' block holds what the body selects. -/
theorem after_2 (c : Dev nD) (t : Fin cfg0.N) : (dats m 0 c).after 2 t = left2 (grid0.coords t) (iblk m c 0 t) (iblk m c 1 t) := by dsimp only [dats]
/-- The attributes' block holds what the body computes. -/
theorem after_3 (c : Dev nD) (t : Fin cfg0.N) : (dats m 0 c).after 3 t = left3 (grid0.coords t) (iblk m c 0 t) (iblk m c 1 t) := by dsimp only [dats]

/-- Each input's buffer holds its block when the body starts. -/
theorem before_0 (c : Dev nD) (t : Fin cfg0.N) (d) : (dats m 0 c).before 0 t d = iblk m c 0 t :=
  before0_0_of m (dats m 0 c) (A_eq m c 0) (after_0 m c) t d
/-- The lanes' block is there when the body starts. -/
theorem before_1 (c : Dev nD) (t : Fin cfg0.N) (d) : (dats m 0 c).before 1 t d = iblk m c 1 t :=
  before0_1_of m (dats m 0 c) (A_eq m c 1) (after_1 m c) t d

/-- What the body is entered with at a point, window by window. -/
def entered (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point of the grid. -/
theorem body_at (c : Dev nD) (t : Fin cfg0.N) :
    entered m c t ⊢ wp frame (wpE (defs₀ (F := F)) Variants.none c none) Set.univ (bodyAt0 t) (fun _ => returned m c t) := by
  unfold entered returned bodyAt0
  simp only [before_0, before_1]
  rw [show (dats m 0 c).Φ t.succ = (dats m 0 c).Φ t.castSucc from rfl,
    show (dats m 0 c).owesAt () t.succ = (dats m 0 c).owesAt () t.castSucc from rfl, after_0, after_1, after_2, after_3]
  iintro ⟨HΦ, Ho, ⟨%d0, B0⟩, ⟨%d1, B1⟩, ⟨%d2, B2⟩, ⟨%d3, B3⟩⟩
  iapply (body_triple c Set.univ (grid0.coords t) _ _ _ _ _ _ _ _ (iblk m c 0 t) (iblk m c 1 t) _)
  isplitl [B0]; · iexact B0
  isplitl [B1]; · iexact B1
  isplitl [B2]; · iexists _; iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

/-- The launch calls the body at every point as `bodyAt0` spells it. -/
theorem row_at (t : Fin cfg0.N) : defs₀ (F := F) .tc cfg0.body (cfg0.bodyArgs t (cfg0.slots t)) = bodyAt0 t := by
  unfold defs₀; rw [Defs.onTc_tc]

/-- The body meets the launch's obligation at every point. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 800000 in
/-- The run: every final state holds in the pipeline's arrays what the proof data computes, elsewhere what the lines after
    the launch leave, and every semaphore counter is zero. -/
theorem run_counters : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_counters m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_counters m ρ))

end Cert.KernelIdeal.Run

end
-- ==== Proof.KernelValue.lean ====
/-
  What the kernel's two output arrays hold after the launch, for the points that are kept.
-/
module

public import proofs.«01_k».proof.Proof.KernelDist
public import proofs.«01_k».proof.Proof.RunIdeal
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic Idealize.SL.Sem
open Idealize.ShloMosaic.Pipeline (Dat Cfg Window)
open Cert.KernelIdeal Cert.KernelIdeal.Gen Cert.KernelIdeal.Body Cert.Knn Cert.Knn.Select Cert.Knn.Dist

variable (m : (ℓ : Loc nD τ sig) → Buf (Elt Ideal) ℓ) (c : Dev nD)

/-- Where each window's block lies. -/
theorem index_0 : ∀ t : Fin cfg0.N, win0_0.index t = ![0, 0] := (by decide +kernel : ∀ t : Fin grid0.N, _)
/-- The lanes' block is the column of the grid point. -/
theorem index_1 : ∀ t : Fin cfg0.N, win0_1.index t = ![0, (grid0.coords t 0).val] := (by decide +kernel : ∀ t : Fin grid0.N, _)
/-- So is the neighbours' block. -/
theorem index_2 : ∀ t : Fin cfg0.N, win0_2.index t = ![0, (grid0.coords t 0).val] := (by decide +kernel : ∀ t : Fin grid0.N, _)
/-- So is the attributes' block. -/
theorem index_3 : ∀ t : Fin cfg0.N, win0_3.index t = ![0, 0, (grid0.coords t 0).val] := (by decide +kernel : ∀ t : Fin grid0.N, _)

/-- The points' block is the whole table of points. -/
theorem block_0 (t : Fin cfg0.N) (j : Fin 5120) (x : Fin 3) : iblk m c 0 t (ix2 j x) = V m c main_v7 (ix2 j x) := by
  blk_simp [iblk]
  exact congrArg _ (by blk_ext [index_0])

/-- The lanes' block is its part of the transposed table. -/
theorem block_1 (t : Fin cfg0.N) (x : Fin 3) (l : Fin 128) (h : point (grid0.coords t) l < 5120) :
    iblk m c 1 t (ix2 x l) = V m c main_v8 (ix2 x ⟨point (grid0.coords t) l, h⟩) := by
  blk_simp [iblk]
  exact congrArg _ (by blk_ext [index_1]; unfold point; omega)

/-- Two zeros are the zero offset. -/
theorem zeros2 : (![0, 0] : Fin 2 → Nat) = fun _ => 0 := funext fun a => by fin_cases a <;> rfl
/-- Three zeros are the zero offset. -/
theorem zeros3 : (![0, 0, 0] : Fin 3 → Nat) = fun _ => 0 := funext fun a => by fin_cases a <;> rfl

/-- The neighbours' block is what the body selects from its two blocks. -/
theorem left2_eq (i : grid0.Coords) (x0 : Vec Ideal S5120x3 .f32) (x1 : Vec Ideal S3x128 .f32) : left2 i x0 x1 = outI i x0 x1 := by
  unfold left2
  rw [View.canon_unit_zero zeros2, View.ld_unit_zero (S := S5120x3) zeros2, View.ld_unit_zero (S := S3x128) zeros2]

/-- The attributes' block likewise. -/
theorem left3_eq (i : grid0.Coords) (x0 : Vec Ideal S5120x3 .f32) (x1 : Vec Ideal S3x128 .f32) : left3 i x0 x1 = outA i x0 x1 := by
  unfold left3
  rw [View.canon_unit_zero zeros3, View.ld_unit_zero (S := S5120x3) zeros2, View.ld_unit_zero (S := S3x128) zeros2]

variable {P : ℕ → Fin 3 → ℝ} (hP : Within P)
variable (h7 : ∀ (j : Fin 5120) x, j.val < 5000 → V m c main_v7 (ix2 j x) = (P j.val x : EReal))
variable (h8 : ∀ (j : Fin 5120) x, j.val < 5000 → V m c main_v8 (ix2 x j) = (P j.val x : EReal))
include hP h7 h8

/-- A lane of a grid point that is a kept point. -/
theorem lane (t : Fin cfg0.N) (l : Fin 128) (hq : point (grid0.coords t) l < 5000) (n : Fin 50) :
    outI (grid0.coords t) (iblk m c 0 t) (iblk m c 1 t) (ix2 n l) = BitVec.ofNat 32 (near P (point (grid0.coords t) l) n)
      ∧ ∀ k : Fin 5, outA (grid0.coords t) (iblk m c 0 t) (iblk m c 1 t) (ix3 n k l)
          = att (off P (point (grid0.coords t) l) (near P (point (grid0.coords t) l) n)) k.val :=
  left_lane hP (grid0.coords t) l (fun j x hj => (block_0 m c t j x).trans (h7 j x hj))
    (fun x => (block_1 m c t x l (by omega)).trans (h8 _ x hq)) hq n

/-- The neighbours' array, at a kept point. -/
theorem final_2 (i : S50x5120.Idx) (hi : (i 1).val < 5000) :
    ((dats m 0 c).arrAt 2 cfg0.N i : BitVec 32) = BitVec.ofNat 32 (near P (i 1).val (i 0).val) := by
  revert hi
  refine (dats m 0 c).arrAt_forall_of_covers 2 (fun (i : S50x5120.Idx) (v : BitVec 32) => (i 1).val < 5000 → v = BitVec.ofNat 32 (near P (i 1).val (i 0).val))
    (by decide +kernel) (fun t hf y => ?_) i
  blk_simp [after_2, left2_eq, index_2]
  intro h
  obtain ⟨n, l, rfl⟩ : ∃ (n : Fin 50) (l : Fin 128), y = ix2 n l := ⟨y 0, y 1, eq_ix2 y⟩
  have e : point (grid0.coords t) l = (grid0.coords t 0).val * 128 + l.val := by unfold point; rw [Nat.mul_comm]
  have := (lane m c hP h7 h8 t l (by rw [e]; exact h) n).1
  rw [e] at this
  exact this

/-- The attributes' array, at a kept point. -/
theorem final_3 (i : S50x5x5120.Idx) (hi : (i 2).val < 5000) :
    ((dats m 0 c).arrAt 3 cfg0.N i : EReal) = att (off P (i 2).val (near P (i 2).val (i 0).val)) (i 1).val := by
  revert hi
  refine (dats m 0 c).arrAt_forall_of_covers 3 (fun (i : S50x5x5120.Idx) (v : EReal) => (i 2).val < 5000 → v = att (off P (i 2).val (near P (i 2).val (i 0).val)) (i 1).val)
    (by decide +kernel) (fun t hf y => ?_) i
  blk_simp [after_3, left3_eq, index_3]
  intro h
  obtain ⟨n, k, l, rfl⟩ : ∃ (n : Fin 50) (k : Fin 5) (l : Fin 128), y = ix3 n k l := ⟨y 0, y 1, y 2, eq_ix3 y⟩
  have e : point (grid0.coords t) l = (grid0.coords t 0).val * 128 + l.val := by unfold point; rw [Nat.mul_comm]
  have := (lane m c hP h7 h8 t l (by rw [e]; exact h) n).2 k
  rw [e] at this
  exact this

end Cert.KernelIdeal.Run

end
-- ==== Proof.KernelHost.lean ====
module
public import proofs.«01_k».proof.Proof.KernelValue
public import Idealize.ShloMosaic.Lib.Tactic.CleanTypes
public import Idealize.ShloMosaic.Lib.StableHlo.Run
@[expose] public section
set_option maxRecDepth 16384
noncomputable section
namespace Cert.KernelIdeal.Run
open Idealize.ShloMosaic Idealize.ShloMosaic.TcCoe Idealize.ShloMosaic.Tactic Idealize.ShloMosaic.StableHlo Idealize.SL.Sem
open Cert.KernelIdeal Cert.KernelIdeal.Gen

/-- The neighbour table the kernel stored, cut to the real points and laid out edge by edge. -/
def flat (x : S50x5120.Idx → BitVec 32) : S250000.Idx → BitVec 32 :=
  shapeCast S250000 (transpose S5000x50 [1, 0] (extractStridedSlice S50x5000 ![0, 0] x slices_S50x5120_S50x5000_0_0) transposes_S50x5000_S5000x50_1_0) shapeCasts_S5000x50_S250000

/-- Every point's own number, fifty times over, edge by edge. -/
def own : S250000.Idx → BitVec 32 :=
  shapeCast S250000 (broadcastInDim S5000x50 ![0] bcast_S5000_S5000x50_0 (iotaInDim S5000 32 0)) shapeCasts_S5000x50_S250000

/-- The attributes the kernel stored, cut to the real points and laid out edge by edge. -/
def flatA (x : S50x5x5120.Idx → EReal) : S250000x5.Idx → EReal :=
  shapeCast S250000x5 (transpose S5000x50x5 [2, 0, 1] (extractStridedSlice S50x5x5000 ![0, 0, 0] x slices_S50x5x5120_S50x5x5000_0_0_0) transposes_S50x5x5000_S5000x50x5_2_0_1) shapeCasts_S5000x50x5_S250000x5

variable (W : Valuation τ sig (Elt Ideal))

/-- After the launch the edge list is two rows, one of neighbours then own numbers, one of own numbers then neighbours. -/
theorem tail_pairs : after hostOps1 W (Proc.devRef .tc main_v20) =
    concatenate S2x500000 0 [⟨S1x500000, broadcastInDim S1x500000 ![1] bcast_S500000_S1x500000_1 (concatenate S500000 0 [⟨S250000, flat (W (Proc.devRef .tc main_v9_0))⟩, ⟨S250000, own⟩] concatenates_S250000_S250000_S500000_d0)⟩,
      ⟨S1x500000, broadcastInDim S1x500000 ![1] bcast_S500000_S1x500000_1 (concatenate S500000 0 [⟨S250000, own⟩, ⟨S250000, flat (W (Proc.devRef .tc main_v9_0))⟩] concatenates_S250000_S250000_S500000_d0)⟩] concatenates_S1x500000_S1x500000_S2x500000_d0 := by
  simp only [hostOps1]
  after_results_simp
  all_goals rfl

/-- After the launch the attribute list is the flattened attributes twice over. -/
theorem tail_attr : after hostOps1 W (Proc.devRef .tc main_v24) =
    concatenate S500000x5 0 [⟨S250000x5, flatA (W (Proc.devRef .tc main_v9_1))⟩, ⟨S250000x5, flatA (W (Proc.devRef .tc main_v9_1))⟩] concatenates_S250000x5_S250000x5_S500000x5_d0 := by
  simp only [hostOps1]
  after_results_simp
  all_goals rfl

/-- Edge `e` of the flattened table is neighbour `e % 50` of point `e / 50`. -/
theorem flat_apply (x : S50x5120.Idx → BitVec 32) (e : Fin 250000) :
    flat x (ix1 e) = x (ix2 ⟨e.val % 50, by omega⟩ ⟨e.val / 50, by omega⟩) := by
  unfold flat
  pointwise

/-- Edge `e` belongs to point `e / 50`. -/
theorem own_apply (e : Fin 250000) : own (ix1 e) = BitVec.ofNat 32 (e.val / 50) := by
  unfold own
  pointwise

/-- Edge `e` carries the attributes of neighbour `e % 50` of point `e / 50`. -/
theorem flatA_apply (x : S50x5x5120.Idx → EReal) (e : Fin 250000) (k : Fin 5) :
    flatA x (ix2 e k) = x (ix3 ⟨e.val % 50, by omega⟩ k ⟨e.val / 50, by omega⟩) := by
  unfold flatA
  pointwise

/-- The first row of the edge list. -/
theorem pairs_first (e : Fin 500000) : (after hostOps1 W (Proc.devRef .tc main_v20) : S2x500000.Idx → BitVec 32) (ix2 0 e) =
    if h : e.val < 250000 then flat (W (Proc.devRef .tc main_v9_0)) (ix1 ⟨e.val, h⟩) else own (ix1 ⟨e.val - 250000, by omega⟩) := by
  rw [tail_pairs]
  pointwise

/-- The second row of the edge list. -/
theorem pairs_second (e : Fin 500000) : (after hostOps1 W (Proc.devRef .tc main_v20) : S2x500000.Idx → BitVec 32) (ix2 1 e) =
    if h : e.val < 250000 then own (ix1 ⟨e.val, h⟩) else flat (W (Proc.devRef .tc main_v9_0)) (ix1 ⟨e.val - 250000, by omega⟩) := by
  rw [tail_pairs]
  pointwise

/-- The attribute list, entry by entry. -/
theorem attr_apply (e : Fin 500000) (k : Fin 5) : (after hostOps1 W (Proc.devRef .tc main_v24) : S500000x5.Idx → EReal) (ix2 e k) =
    if h : e.val < 250000 then flatA (W (Proc.devRef .tc main_v9_1)) (ix2 ⟨e.val, h⟩ k) else flatA (W (Proc.devRef .tc main_v9_1)) (ix2 ⟨e.val - 250000, by omega⟩ k) := by
  rw [tail_attr]
  pointwise

variable (m : (ℓ : Loc nD τ sig) → Buf (Elt Ideal) ℓ) (c : Dev nD)

/-- The points kept, as the host gathers them before the launch. -/
def kept : S5000x3.Idx → EReal :=
  Host.gather gather_S10000x3_S5000x1_S5000x3_1_0_n_n_0_1_13 (m (c, Proc.devRef .tc main_arg0))
      (broadcastInDim S5000x1 ![0] bcast_S5000_S5000x1_0
        (select
          (cmpi CmpIPredicate.slt (m (c, Proc.devRef .tc main_arg1))
            (broadcastInDim S5000 ![] bcast_S_S5000 (constantI S_ 32 0#32)))
          (addi (m (c, Proc.devRef .tc main_arg1)) (broadcastInDim S5000 ![] bcast_S_S5000 (constantI S_ 32 10000#32)))
          (m (c, Proc.devRef .tc main_arg1))))

/-- When the launch begins, the first result already holds the kept points. -/
theorem entry_kept : V m c main_v6 = kept m c := by
  simp only [V, V0, hostOps0, hostOps0_1, hostOps0_2, List.flatten_cons, List.flatten_nil, List.append_nil, List.cons_append,
      List.nil_append]
  after_results_simp
  all_goals rfl

/-- When the launch begins, the first operand holds the kept points and zero rows below them. -/
theorem entry_padded : V m c main_v7 = pad S5120x3 ![0, 0] ![120, 0] ![0, 0] (kept m c) (sitofp (F := Ideal) FTy.f32 (constantI S_ 32 0#32)) pads_S5000x3_S5120x3_01200_000 h_S_ := by
  simp only [V, V0, hostOps0, hostOps0_1, hostOps0_2, List.flatten_cons, List.flatten_nil, List.append_nil, List.cons_append,
      List.nil_append]
  after_results_simp
  all_goals rfl

/-- The second operand is the first with its axes swapped. -/
theorem entry_turned : V m c main_v8 = transpose S3x5120 [1, 0] (V m c main_v7) transposes_S5120x3_S3x5120_1_0 := by
  rw [entry_padded]
  simp only [V, V0, hostOps0, hostOps0_1, hostOps0_2, List.flatten_cons, List.flatten_nil, List.append_nil, List.cons_append,
      List.nil_append]
  after_results_simp
  all_goals rfl

/-- A real row of the first operand is a kept point. -/
theorem entry_7 (j : Fin 5120) (x : Fin 3) (h : j.val < 5000) :
    (V m c main_v7 : S5120x3.Idx → EReal) (ix2 j x) = kept m c (ix2 ⟨j.val, h⟩ x) := by
  rw [entry_padded]
  pointwise
  exact dif_pos h

/-- A real column of the second operand is a kept point. -/
theorem entry_8 (j : Fin 5120) (x : Fin 3) (h : j.val < 5000) :
    (V m c main_v8 : S3x5120.Idx → EReal) (ix2 x j) = kept m c (ix2 ⟨j.val, h⟩ x) := by
  rw [entry_turned]
  refine Eq.trans ?_ (entry_7 m c j x h)
  pointwise

end Cert.KernelIdeal.Run
end
-- ==== Proof.KernelOut.lean ====
/- What the kernel's program leaves in its three results, read at an index. -/
module

public import proofs.«01_k».proof.Proof.KernelHost

@[expose] public section

set_option maxRecDepth 16384

noncomputable section

namespace Cert.KernelIdeal.Run

open Idealize.ShloMosaic Idealize.ShloMosaic.TcCoe Idealize.ShloMosaic.Tactic Idealize.ShloMosaic.StableHlo Idealize.SL.Sem
open Cert.KernelIdeal Cert.KernelIdeal.Gen Cert.Knn.Dist

variable (m : (ℓ : Loc nD τ sig) → Buf (Elt Ideal) ℓ) (c : Dev nD)

/-- The contents of the buffers when the launch has ended. -/
abbrev ended : Valuation τ sig (Elt Ideal) :=
  Pipeline.withArrays (cfgs 0).spec c (V0 m c) fun w => (dats m 0 c).arrAt w (cfgs 0).N

/-- The contents when the program has ended are those after the host's last operations. -/
theorem final_eq (b : Ref sig .tc) : Pipeline.afterTail₀ cfgs (dats m) 0 (V0 m) [hostOps1] c b = after hostOps1 (ended m c) (Proc.devRef .tc b) := by
  unfold Pipeline.afterTail₀
  rw [List.flatten_cons, List.flatten_nil, List.append_nil]

/-- The first result holds the kept points. -/
theorem final_kept : Pipeline.afterTail₀ cfgs (dats m) 0 (V0 m) [hostOps1] c main_v6 = kept m c := by
  rw [final_eq]
  have h : after hostOps1 (ended m c) (Proc.devRef .tc main_v6) = ended m c (Proc.devRef .tc main_v6) := by
    simp only [hostOps1]
    after_results_simp
  rw [h]
  exact (Pipeline.withArrays_of_ne (cfgs 0).spec c (V0 m c) _ main_v6 (by exact (by decide : ∀ w, Pipeline.arrRef spec0 w ≠ main_v6))).trans (entry_kept m c)

/-- The neighbour table at the launch's end. -/
theorem ended_2 : ended m c (Proc.devRef .tc main_v9_0) = (dats m 0 c).arrAt 2 cfg0.N :=
  Pipeline.withArrays_arr spec0 (by decide) c (V0 m c) _ 2

/-- The attribute table at the launch's end. -/
theorem ended_3 : ended m c (Proc.devRef .tc main_v9_1) = (dats m 0 c).arrAt 3 cfg0.N :=
  Pipeline.withArrays_arr spec0 (by decide) c (V0 m c) _ 3

variable {P : ℕ → Fin 3 → ℝ} (hP : Within P) (hk : ∀ (j : Fin 5000) (x : Fin 3), kept m c (ix2 j x) = (P j.val x : EReal))
include hP hk

/-- The flattened neighbour table. -/
theorem flat_value (e : Fin 250000) : flat (ended m c (Proc.devRef .tc main_v9_0)) (ix1 e) = BitVec.ofNat 32 (near P (e.val / 50) (e.val % 50)) := by
  rw [flat_apply, ended_2]
  exact final_2 m c hP (fun j x h => (entry_7 m c j x h).trans (hk ⟨j.val, h⟩ x)) (fun j x h => (entry_8 m c j x h).trans (hk ⟨j.val, h⟩ x))
    (ix2 ⟨e.val % 50, by omega⟩ ⟨e.val / 50, by omega⟩) (by show e.val / 50 < 5000; omega)

/-- The flattened attribute table. -/
theorem flatA_value (e : Fin 250000) (k : Fin 5) : flatA (ended m c (Proc.devRef .tc main_v9_1)) (ix2 e k) =
    att (off P (e.val / 50) (near P (e.val / 50) (e.val % 50))) k.val := by
  rw [flatA_apply, ended_3]
  exact final_3 m c hP (fun j x h => (entry_7 m c j x h).trans (hk ⟨j.val, h⟩ x)) (fun j x h => (entry_8 m c j x h).trans (hk ⟨j.val, h⟩ x))
    (ix3 ⟨e.val % 50, by omega⟩ k ⟨e.val / 50, by omega⟩) (by show e.val / 50 < 5000; omega)

/-- The first row of the edge list. -/
theorem final_first (e : Fin 500000) : (Pipeline.afterTail₀ cfgs (dats m) 0 (V0 m) [hostOps1] c main_v20 : S2x500000.Idx → BitVec 32) (ix2 0 e) =
    BitVec.ofNat 32 (first P e.val) := by
  rw [final_eq]
  refine (pairs_first _ e).trans ?_
  unfold first
  split
  · exact flat_value m c hP hk _
  · exact own_apply _

/-- The second row of the edge list. -/
theorem final_second (e : Fin 500000) : (Pipeline.afterTail₀ cfgs (dats m) 0 (V0 m) [hostOps1] c main_v20 : S2x500000.Idx → BitVec 32) (ix2 1 e) =
    BitVec.ofNat 32 (second P e.val) := by
  rw [final_eq]
  refine (pairs_second _ e).trans ?_
  unfold second
  split
  · exact own_apply _
  · exact flat_value m c hP hk _

/-- The attribute list. -/
theorem final_attr (e : Fin 500000) (k : Fin 5) : (Pipeline.afterTail₀ cfgs (dats m) 0 (V0 m) [hostOps1] c main_v24 : S500000x5.Idx → EReal) (ix2 e k) =
    att (gap P e.val) k.val := by
  rw [final_eq]
  refine (attr_apply _ e k).trans ?_
  unfold gap
  split
  · exact flatA_value m c hP hk _ k
  · exact flatA_value m c hP hk _ k

end Cert.KernelIdeal.Run

end
-- ==== Proof.RefRun.lean ====
/-
  The reference's run: its main function is the list of its host operations, so every execution ends with each
  result at the operations' composed term of the arguments, and the arguments unchanged.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Terms

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v33`, which joins two arrays. Named, so that its operands are plain arguments. -/
def fn_main_v33 : (⟨S250000, .i32⟩ : BufTy).Contents (Elt F) → (⟨S250000, .i32⟩ : BufTy).Contents (Elt F) → (⟨S500000, .i32⟩ : BufTy).Contents (Elt F) :=
  (fun a b => concatenate S500000 0 [⟨S250000, a⟩, ⟨S250000, b⟩] concatenates_S250000_S250000_S500000_d0)

/-- The function of the operation that writes `main_v34`, which joins two arrays. Named, so that its operands are plain arguments. -/
def fn_main_v34 : (⟨S250000, .i32⟩ : BufTy).Contents (Elt F) → (⟨S250000, .i32⟩ : BufTy).Contents (Elt F) → (⟨S500000, .i32⟩ : BufTy).Contents (Elt F) :=
  (fun a b => concatenate S500000 0 [⟨S250000, a⟩, ⟨S250000, b⟩] concatenates_S250000_S250000_S500000_d0)

/-- The function of the operation that writes `main_v37`, which joins two arrays. Named, so that its operands are plain arguments. -/
def fn_main_v37 : (⟨S1x500000, .i32⟩ : BufTy).Contents (Elt F) → (⟨S1x500000, .i32⟩ : BufTy).Contents (Elt F) → (⟨S2x500000, .i32⟩ : BufTy).Contents (Elt F) :=
  (fun a b => concatenate S2x500000 0 [⟨S1x500000, a⟩, ⟨S1x500000, b⟩] concatenates_S1x500000_S1x500000_S2x500000_d0)

/-- The function of the operation that writes `main_v58`, which joins two arrays. Named, so that its operands are plain arguments. -/
def fn_main_v58 : (main_call0_v15 : Ref sig .tc).ty.Contents (Elt F) → (main_call0_v16 : Ref sig .tc).ty.Contents (Elt F) → (main_v58 : Ref sig .tc).ty.Contents (Elt F) :=
  (fun a b => concatenate S5 0 [⟨S4, a⟩, ⟨S1, b⟩] concatenates_S4_S1_S5_d0)

/-- @main's operations 1 … 60 of 113 (window `main_part0`). -/
abbrev ops_part0 : List (HloOp τ sig (Elt F)) :=
  [ nullary main_c (constantI S_ 32 0#32),
    unary main_c main_v0 (broadcastInDim S5000 ![] bcast_S_S5000 : (⟨S_, .i32⟩ : BufTy).Contents (Elt F) → (⟨S5000, .i32⟩ : BufTy).Contents (Elt F)),
    binary main_arg1 main_v0 main_v1 (cmpi .slt : (⟨S5000, .i32⟩ : BufTy).Contents (Elt F) → (⟨S5000, .i32⟩ : BufTy).Contents (Elt F) → (⟨S5000, .i1⟩ : BufTy).Contents (Elt F)),
    nullary main_c_0 (constantI S_ 32 10000#32),
    unary main_c_0 main_v2 (broadcastInDim S5000 ![] bcast_S_S5000 : (⟨S_, .i32⟩ : BufTy).Contents (Elt F) → (⟨S5000, .i32⟩ : BufTy).Contents (Elt F)),
    binary main_arg1 main_v2 main_v3 (addi : (⟨S5000, .i32⟩ : BufTy).Contents (Elt F) → (⟨S5000, .i32⟩ : BufTy).Contents (Elt F) → (⟨S5000, .i32⟩ : BufTy).Contents (Elt F)),
    ternary main_v1 main_v3 main_arg1 main_v4 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v4 main_v5 (broadcastInDim S5000x1 ![0] bcast_S5000_S5000x1_0 : (⟨S5000, .i32⟩ : BufTy).Contents (Elt F) → (⟨S5000x1, .i32⟩ : BufTy).Contents (Elt F)),
    binary main_arg0 main_v5 main_v6 ((fun x i => Host.gather gather_S10000x3_S5000x1_S5000x3_1_0_n_n_0_1_13 x i) : (⟨S10000x3, .f32⟩ : BufTy).Contents (Elt F) → (⟨S5000x1, .i32⟩ : BufTy).Contents (Elt F) → (⟨S5000x3, .f32⟩ : BufTy).Contents (Elt F)),
    binary main_v6 main_v6 main_v7 (mulf : (⟨S5000x3, .f32⟩ : BufTy).Contents (Elt F) → (⟨S5000x3, .f32⟩ : BufTy).Contents (Elt F) → (⟨S5000x3, .f32⟩ : BufTy).Contents (Elt F)),
    nullary main_cst (constant S_ .f32 0x00000000#32),
    binary main_v7 main_cst main_v8 ((fun x v => Host.reduceAdd x v reducesTo_S5000x3_S5000_d1 h_S_) : (⟨S5000x3, .f32⟩ : BufTy).Contents (Elt F) → (⟨S_, .f32⟩ : BufTy).Contents (Elt F) → (⟨S5000, .f32⟩ : BufTy).Contents (Elt F)),
    unary main_v8 main_v9 (broadcastInDim S5000x1 ![0] bcast_S5000_S5000x1_0 : (⟨S5000, .f32⟩ : BufTy).Contents (Elt F) → (⟨S5000x1, .f32⟩ : BufTy).Contents (Elt F)),
    unary main_v8 main_v10 (broadcastInDim S1x5000 ![1] bcast_S5000_S1x5000_1 : (⟨S5000, .f32⟩ : BufTy).Contents (Elt F) → (⟨S1x5000, .f32⟩ : BufTy).Contents (Elt F)),
    unary main_v9 main_v11 (broadcastInDim S5000x5000 ![0, 1] bcast_S5000x1_S5000x5000_0_1 : (⟨S5000x1, .f32⟩ : BufTy).Contents (Elt F) → (⟨S5000x5000, .f32⟩ : BufTy).Contents (Elt F)),
    unary main_v10 main_v12 (broadcastInDim S5000x5000 ![0, 1] bcast_S1x5000_S5000x5000_0_1 : (⟨S1x5000, .f32⟩ : BufTy).Contents (Elt F) → (⟨S5000x5000, .f32⟩ : BufTy).Contents (Elt F)),
    binary main_v11 main_v12 main_v13 (addf : (⟨S5000x5000, .f32⟩ : BufTy).Contents (Elt F) → (⟨S5000x5000, .f32⟩ : BufTy).Contents (Elt F) → (⟨S5000x5000, .f32⟩ : BufTy).Contents (Elt F)),
    unary main_v6 main_v14 ((transpose S3x5000 [1, 0] · transposes_S5000x3_S3x5000_1_0) : (⟨S5000x3, .f32⟩ : BufTy).Contents (Elt F) → (⟨S3x5000, .f32⟩ : BufTy).Contents (Elt F)),
    binary main_v6 main_v14 main_v15 ((fun l r => Host.dotGeneral dot_S5000x3_S3x5000_S5000x5000_1_0_0_1_n_n none l r) : (⟨S5000x3, .f32⟩ : BufTy).Contents (Elt F) → (⟨S3x5000, .f32⟩ : BufTy).Contents (Elt F) → (⟨S5000x5000, .f32⟩ : BufTy).Contents (Elt F)),
    nullary main_cst_1 (constant S_ .f32 0x40000000#32),
    unary main_cst_1 main_v16 (broadcastInDim S5000x5000 ![] bcast_S_S5000x5000 : (⟨S_, .f32⟩ : BufTy).Contents (Elt F) → (⟨S5000x5000, .f32⟩ : BufTy).Contents (Elt F)),
    binary main_v16 main_v15 main_v17 (mulf : (⟨S5000x5000, .f32⟩ : BufTy).Contents (Elt F) → (⟨S5000x5000, .f32⟩ : BufTy).Contents (Elt F) → (⟨S5000x5000, .f32⟩ : BufTy).Contents (Elt F)),
    binary main_v13 main_v17 main_v18 (subf : (⟨S5000x5000, .f32⟩ : BufTy).Contents (Elt F) → (⟨S5000x5000, .f32⟩ : BufTy).Contents (Elt F) → (⟨S5000x5000, .f32⟩ : BufTy).Contents (Elt F)),
    nullary main_v19 (iotaInDim S5000x5000 32 0),
    nullary main_v20 (iotaInDim S5000x5000 32 1),
    nullary main_c_2 (constantI S_ 32 0#32),
    unary main_c_2 main_v21 (broadcastInDim S5000x5000 ![] bcast_S_S5000x5000 : (⟨S_, .i32⟩ : BufTy).Contents (Elt F) → (⟨S5000x5000, .i32⟩ : BufTy).Contents (Elt F)),
    binary main_v19 main_v21 main_v22 (addi : (⟨S5000x5000, .i32⟩ : BufTy).Contents (Elt F) → (⟨S5000x5000, .i32⟩ : BufTy).Contents (Elt F) → (⟨S5000x5000, .i32⟩ : BufTy).Contents (Elt F)),
    binary main_v22 main_v20 main_v23 (cmpi .eq : (⟨S5000x5000, .i32⟩ : BufTy).Contents (Elt F) → (⟨S5000x5000, .i32⟩ : BufTy).Contents (Elt F) → (⟨S5000x5000, .i1⟩ : BufTy).Contents (Elt F)),
    unary main_v23 main_v24 (uitofp .f32 : (⟨S5000x5000, .i1⟩ : BufTy).Contents (Elt F) → (⟨S5000x5000, .f32⟩ : BufTy).Contents (Elt F)),
    nullary main_cst_3 (constant S_ .f32 0x501502F9#32),
    unary main_cst_3 main_v25 (broadcastInDim S5000x5000 ![] bcast_S_S5000x5000 : (⟨S_, .f32⟩ : BufTy).Contents (Elt F) → (⟨S5000x5000, .f32⟩ : BufTy).Contents (Elt F)),
    binary main_v24 main_v25 main_v26 (mulf : (⟨S5000x5000, .f32⟩ : BufTy).Contents (Elt F) → (⟨S5000x5000, .f32⟩ : BufTy).Contents (Elt F) → (⟨S5000x5000, .f32⟩ : BufTy).Contents (Elt F)),
    binary main_v18 main_v26 main_v27 (addf : (⟨S5000x5000, .f32⟩ : BufTy).Contents (Elt F) → (⟨S5000x5000, .f32⟩ : BufTy).Contents (Elt F) → (⟨S5000x5000, .f32⟩ : BufTy).Contents (Elt F)),
    unary main_v27 main_v28 (Host.negf : (⟨S5000x5000, .f32⟩ : BufTy).Contents (Elt F) → (⟨S5000x5000, .f32⟩ : BufTy).Contents (Elt F)),
    unary main_v28 main_values ((fun x => (Host.topK S5000x50 1 (FloatOps.cmpfTotal .gt) x sliceFits_S5000x5000_S5000x50).1) : (⟨S5000x5000, .f32⟩ : BufTy).Contents (Elt F) → (⟨S5000x50, .f32⟩ : BufTy).Contents (Elt F)),
    unary main_v28 main_indices ((fun x => (Host.topK S5000x50 1 (FloatOps.cmpfTotal .gt) x sliceFits_S5000x5000_S5000x50).2) : (⟨S5000x5000, .f32⟩ : BufTy).Contents (Elt F) → (⟨S5000x50, .i32⟩ : BufTy).Contents (Elt F)),
    nullary main_v29 (iotaInDim S5000 32 0),
    unary main_v29 main_v30 (broadcastInDim S5000x50 ![0] bcast_S5000_S5000x50_0 : (⟨S5000, .i32⟩ : BufTy).Contents (Elt F) → (⟨S5000x50, .i32⟩ : BufTy).Contents (Elt F)),
    reshape main_v30 main_v31 (rfl : (.i32 : EltTy) = .i32) shapeCasts_S5000x50_S250000,
    reshape main_indices main_v32 (rfl : (.i32 : EltTy) = .i32) shapeCasts_S5000x50_S250000,
    binary main_v32 main_v31 main_v33 (fn_main_v33 (F := F)),
    binary main_v31 main_v32 main_v34 (fn_main_v34 (F := F)),
    unary main_v33 main_v35 (broadcastInDim S1x500000 ![1] bcast_S500000_S1x500000_1 : (⟨S500000, .i32⟩ : BufTy).Contents (Elt F) → (⟨S1x500000, .i32⟩ : BufTy).Contents (Elt F)),
    unary main_v34 main_v36 (broadcastInDim S1x500000 ![1] bcast_S500000_S1x500000_1 : (⟨S500000, .i32⟩ : BufTy).Contents (Elt F) → (⟨S1x500000, .i32⟩ : BufTy).Contents (Elt F)),
    binary main_v35 main_v36 main_v37 (fn_main_v37 (F := F)),
    nullary main_c_4 (constantI S_ 32 0#32),
    unary main_c_4 main_v38 (broadcastInDim S500000 ![] bcast_S_S500000 : (⟨S_, .i32⟩ : BufTy).Contents (Elt F) → (⟨S500000, .i32⟩ : BufTy).Contents (Elt F)),
    binary main_v34 main_v38 main_v39 (cmpi .slt : (⟨S500000, .i32⟩ : BufTy).Contents (Elt F) → (⟨S500000, .i32⟩ : BufTy).Contents (Elt F) → (⟨S500000, .i1⟩ : BufTy).Contents (Elt F)),
    nullary main_c_5 (constantI S_ 32 5000#32),
    unary main_c_5 main_v40 (broadcastInDim S500000 ![] bcast_S_S500000 : (⟨S_, .i32⟩ : BufTy).Contents (Elt F) → (⟨S500000, .i32⟩ : BufTy).Contents (Elt F)),
    binary main_v34 main_v40 main_v41 (addi : (⟨S500000, .i32⟩ : BufTy).Contents (Elt F) → (⟨S500000, .i32⟩ : BufTy).Contents (Elt F) → (⟨S500000, .i32⟩ : BufTy).Contents (Elt F)),
    ternary main_v39 main_v41 main_v34 main_v42 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v42 main_v43 (broadcastInDim S500000x1 ![0] bcast_S500000_S500000x1_0 : (⟨S500000, .i32⟩ : BufTy).Contents (Elt F) → (⟨S500000x1, .i32⟩ : BufTy).Contents (Elt F)),
    binary main_v6 main_v43 main_v44 ((fun x i => Host.gather gather_S5000x3_S500000x1_S500000x3_1_0_n_n_0_1_13 x i) : (⟨S5000x3, .f32⟩ : BufTy).Contents (Elt F) → (⟨S500000x1, .i32⟩ : BufTy).Contents (Elt F) → (⟨S500000x3, .f32⟩ : BufTy).Contents (Elt F)),
    nullary main_c_6 (constantI S_ 32 0#32),
    unary main_c_6 main_v45 (broadcastInDim S500000 ![] bcast_S_S500000 : (⟨S_, .i32⟩ : BufTy).Contents (Elt F) → (⟨S500000, .i32⟩ : BufTy).Contents (Elt F)),
    binary main_v33 main_v45 main_v46 (cmpi .slt : (⟨S500000, .i32⟩ : BufTy).Contents (Elt F) → (⟨S500000, .i32⟩ : BufTy).Contents (Elt F) → (⟨S500000, .i1⟩ : BufTy).Contents (Elt F)),
    nullary main_c_7 (constantI S_ 32 5000#32),
    unary main_c_7 main_v47 (broadcastInDim S500000 ![] bcast_S_S500000 : (⟨S_, .i32⟩ : BufTy).Contents (Elt F) → (⟨S500000, .i32⟩ : BufTy).Contents (Elt F)) ]

/-- @main's operations 61 … 113 of 113 (window `main_part1`). -/
abbrev ops_part1 : List (HloOp τ sig (Elt F)) :=
  [ binary main_v33 main_v47 main_v48 (addi : (⟨S500000, .i32⟩ : BufTy).Contents (Elt F) → (⟨S500000, .i32⟩ : BufTy).Contents (Elt F) → (⟨S500000, .i32⟩ : BufTy).Contents (Elt F)),
    ternary main_v46 main_v48 main_v33 main_v49 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v49 main_v50 (broadcastInDim S500000x1 ![0] bcast_S500000_S500000x1_0 : (⟨S500000, .i32⟩ : BufTy).Contents (Elt F) → (⟨S500000x1, .i32⟩ : BufTy).Contents (Elt F)),
    binary main_v6 main_v50 main_v51 ((fun x i => Host.gather gather_S5000x3_S500000x1_S500000x3_1_0_n_n_0_1_13 x i) : (⟨S5000x3, .f32⟩ : BufTy).Contents (Elt F) → (⟨S500000x1, .i32⟩ : BufTy).Contents (Elt F) → (⟨S500000x3, .f32⟩ : BufTy).Contents (Elt F)),
    binary main_v44 main_v51 main_v52 (subf : (⟨S500000x3, .f32⟩ : BufTy).Contents (Elt F) → (⟨S500000x3, .f32⟩ : BufTy).Contents (Elt F) → (⟨S500000x3, .f32⟩ : BufTy).Contents (Elt F)),
    binary main_v52 main_v52 main_v53 (mulf : (⟨S500000x3, .f32⟩ : BufTy).Contents (Elt F) → (⟨S500000x3, .f32⟩ : BufTy).Contents (Elt F) → (⟨S500000x3, .f32⟩ : BufTy).Contents (Elt F)),
    nullary main_cst_8 (constant S_ .f32 0x00000000#32),
    binary main_v53 main_cst_8 main_v54 ((fun x v => Host.reduceAdd x v reducesTo_S500000x3_S500000_d1 h_S_) : (⟨S500000x3, .f32⟩ : BufTy).Contents (Elt F) → (⟨S_, .f32⟩ : BufTy).Contents (Elt F) → (⟨S500000, .f32⟩ : BufTy).Contents (Elt F)),
    nullary main_cst_9 (constant S_ .f32 0x2B8CBCCC#32),
    unary main_cst_9 main_v55 (broadcastInDim S500000 ![] bcast_S_S500000 : (⟨S_, .f32⟩ : BufTy).Contents (Elt F) → (⟨S500000, .f32⟩ : BufTy).Contents (Elt F)),
    binary main_v54 main_v55 main_v56 (addf : (⟨S500000, .f32⟩ : BufTy).Contents (Elt F) → (⟨S500000, .f32⟩ : BufTy).Contents (Elt F) → (⟨S500000, .f32⟩ : BufTy).Contents (Elt F)),
    unary main_v56 main_v57 (Host.sqrt : (⟨S500000, .f32⟩ : BufTy).Contents (Elt F) → (⟨S500000, .f32⟩ : BufTy).Contents (Elt F)),
    nullary main_cst_10 (constant S_ .f32 0x00000000#32),
    nullary main_cst_11 (constant S_ .f32 0x41200000#32),
    TRef.unary (TRef.of (T := ⟨S_, .f32⟩) main_cst_10) (TRef.of (T := ⟨S_, .f32⟩) main_call0_v0) id,
    TRef.unary (TRef.of (T := ⟨S_, .f32⟩) main_cst_11) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x40800000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S4, .f32⟩) main_call0_v4) (sitofp .f32 (iotaInDim S4 32 0)),
    TRef.nullary (TRef.of (T := ⟨S_, .f32⟩) main_call0_cst_0) (constant S_ .f32 0x40800000#32),
    TRef.unary (TRef.of (T := ⟨S_, .f32⟩) main_call0_cst_0) (TRef.of (T := ⟨S4, .f32⟩) main_call0_v5) (broadcastInDim S4 ![] bcast_S_S4),
    TRef.binary (TRef.of (T := ⟨S4, .f32⟩) main_call0_v4) (TRef.of (T := ⟨S4, .f32⟩) main_call0_v5) (TRef.of (T := ⟨S4, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S4, .f32⟩) main_call0_v8) (broadcastInDim S4 ![] bcast_S_S4),
    TRef.binary (TRef.of (T := ⟨S4, .f32⟩) main_call0_v8) (TRef.of (T := ⟨S4, .f32⟩) main_call0_v6) (TRef.of (T := ⟨S4, .f32⟩) main_call0_v9) subf,
    TRef.unary (TRef.of (T := ⟨S1, .f32⟩) main_call0_v7) (TRef.of (T := ⟨S4, .f32⟩) main_call0_v10) (broadcastInDim S4 ![0] bcast_S1_S4_0),
    TRef.binary (TRef.of (T := ⟨S4, .f32⟩) main_call0_v10) (TRef.of (T := ⟨S4, .f32⟩) main_call0_v9) (TRef.of (T := ⟨S4, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S4, .f32⟩) main_call0_v13) (broadcastInDim S4 ![0] bcast_S1_S4_0),
    TRef.binary (TRef.of (T := ⟨S4, .f32⟩) main_call0_v13) (TRef.of (T := ⟨S4, .f32⟩) main_call0_v6) (TRef.of (T := ⟨S4, .f32⟩) main_call0_v14) mulf,
    TRef.binary (TRef.of (T := ⟨S4, .f32⟩) main_call0_v11) (TRef.of (T := ⟨S4, .f32⟩) main_call0_v14) (TRef.of (T := ⟨S4, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S4, .f32⟩) main_call0_v15) (TRef.of (T := ⟨S1, .f32⟩) main_call0_v16) (TRef.of (T := ⟨S5, .f32⟩) main_v58) (fn_main_v58 (F := F)),
    unary main_v58 main_v59 ((extractStridedSlice S1 ![1] · slices_S5_S1_1) : (⟨S5, .f32⟩ : BufTy).Contents (Elt F) → (⟨S1, .f32⟩ : BufTy).Contents (Elt F)),
    reshape main_v59 main_v60 (rfl : (.f32 : EltTy) = .f32) shapeCasts_S1_S_,
    unary main_v58 main_v61 ((extractStridedSlice S1 ![0] · slices_S5_S1_0) : (⟨S5, .f32⟩ : BufTy).Contents (Elt F) → (⟨S1, .f32⟩ : BufTy).Contents (Elt F)),
    reshape main_v61 main_v62 (rfl : (.f32 : EltTy) = .f32) shapeCasts_S1_S_,
    binary main_v60 main_v62 main_v63 (subf : (⟨S_, .f32⟩ : BufTy).Contents (Elt F) → (⟨S_, .f32⟩ : BufTy).Contents (Elt F) → (⟨S_, .f32⟩ : BufTy).Contents (Elt F)),
    unary main_v57 main_v64 (broadcastInDim S500000x1 ![0] bcast_S500000_S500000x1_0 : (⟨S500000, .f32⟩ : BufTy).Contents (Elt F) → (⟨S500000x1, .f32⟩ : BufTy).Contents (Elt F)),
    unary main_v58 main_v65 (broadcastInDim S1x5 ![1] bcast_S5_S1x5_1 : (⟨S5, .f32⟩ : BufTy).Contents (Elt F) → (⟨S1x5, .f32⟩ : BufTy).Contents (Elt F)),
    unary main_v64 main_v66 (broadcastInDim S500000x5 ![0, 1] bcast_S500000x1_S500000x5_0_1 : (⟨S500000x1, .f32⟩ : BufTy).Contents (Elt F) → (⟨S500000x5, .f32⟩ : BufTy).Contents (Elt F)),
    unary main_v65 main_v67 (broadcastInDim S500000x5 ![0, 1] bcast_S1x5_S500000x5_0_1 : (⟨S1x5, .f32⟩ : BufTy).Contents (Elt F) → (⟨S500000x5, .f32⟩ : BufTy).Contents (Elt F)),
    binary main_v66 main_v67 main_v68 (subf : (⟨S500000x5, .f32⟩ : BufTy).Contents (Elt F) → (⟨S500000x5, .f32⟩ : BufTy).Contents (Elt F) → (⟨S500000x5, .f32⟩ : BufTy).Contents (Elt F)),
    binary main_v68 main_v68 main_v69 (mulf : (⟨S500000x5, .f32⟩ : BufTy).Contents (Elt F) → (⟨S500000x5, .f32⟩ : BufTy).Contents (Elt F) → (⟨S500000x5, .f32⟩ : BufTy).Contents (Elt F)),
    unary main_v69 main_v70 (Host.negf : (⟨S500000x5, .f32⟩ : BufTy).Contents (Elt F) → (⟨S500000x5, .f32⟩ : BufTy).Contents (Elt F)),
    nullary main_cst_12 (constant S_ .f32 0x40000000#32),
    binary main_cst_12 main_v63 main_v71 (mulf : (⟨S_, .f32⟩ : BufTy).Contents (Elt F) → (⟨S_, .f32⟩ : BufTy).Contents (Elt F) → (⟨S_, .f32⟩ : BufTy).Contents (Elt F)),
    binary main_v71 main_v63 main_v72 (mulf : (⟨S_, .f32⟩ : BufTy).Contents (Elt F) → (⟨S_, .f32⟩ : BufTy).Contents (Elt F) → (⟨S_, .f32⟩ : BufTy).Contents (Elt F)),
    unary main_v72 main_v73 (broadcastInDim S500000x5 ![] bcast_S_S500000x5 : (⟨S_, .f32⟩ : BufTy).Contents (Elt F) → (⟨S500000x5, .f32⟩ : BufTy).Contents (Elt F)),
    binary main_v70 main_v73 main_v74 (Host.divf : (⟨S500000x5, .f32⟩ : BufTy).Contents (Elt F) → (⟨S500000x5, .f32⟩ : BufTy).Contents (Elt F) → (⟨S500000x5, .f32⟩ : BufTy).Contents (Elt F)),
    unary main_v74 main_v75 (Host.exp : (⟨S500000x5, .f32⟩ : BufTy).Contents (Elt F) → (⟨S500000x5, .f32⟩ : BufTy).Contents (Elt F)) ]

/-- @main's 113 operations, in order (a called function's operations stand in its call's place, spelt `TRef.…`). -/
abbrev ops : List (HloOp τ sig (Elt F)) :=
  ops_part0 ++ (ops_part1)

set_option maxRecDepth 8192 in
/-- The first window is its list of operations. -/
theorem main_part0_eq (c : Dev nD) : main_part0 (F := F) c = seq ops_part0 := rfl
set_option maxRecDepth 8192 in
set_option maxHeartbeats 8000000 in
/-- The second window is its list of operations. -/
theorem main_part1_eq (c : Dev nD) : main_part1 (F := F) c = seq ops_part1 := rfl
set_option maxRecDepth 8192 in
/-- The main function is its list of operations. -/
theorem main_eq (c : Dev nD) : main (F := F) c = seq ops := by
  simp only [ops, seq_append, ← main_part0_eq c, ← main_part1_eq c]
  rfl
/-- No buffer is scoped. -/
theorem scopedRefs_eq : (Finset.univ.filter fun b : Ref sig .tc => b.isScoped) = ∅ := by decide
/-- No counter is scoped. -/
theorem scopedSems_eq : (Finset.univ.filter fun sm : SemLoc sig => sm.isScoped .tc) = ∅ := by decide
set_option maxRecDepth 8192 in
/-- The first window's operations touch only the device's buffers. -/
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., unary_bufs_sub .., unary_bufs_sub .., unary_bufs_sub .., nullary_bufs_sub .., unary_bufs_sub .., reshape_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
set_option maxRecDepth 8192 in
/-- The first window's operations allocate nothing. -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The second window's operations touch only the device's buffers. -/
theorem ops_part1_sub : (ops_part1 : List (HloOp τ sig (Elt F))).Forall fun op => op.bufs ⊆ tcRefs τ sig :=
  ⟨binary_bufs_sub .., ternary_bufs_sub .., unary_bufs_sub .., binary_bufs_sub .., binary_bufs_sub .., binary_bufs_sub .., nullary_bufs_sub .., binary_bufs_sub .., nullary_bufs_sub .., unary_bufs_sub .., binary_bufs_sub .., unary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., unary_bufs_sub .., nullary_bufs_sub .., binary_bufs_sub .., binary_bufs_sub .., unary_bufs_sub .., binary_bufs_sub .., unary_bufs_sub ..⟩
set_option maxRecDepth 8192 in
/-- The second window's operations allocate nothing. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The operations touch only the device's buffers. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]
/-- The operations allocate nothing. -/
theorem ops_fresh : ∀ op ∈ (ops : List (HloOp τ sig (Elt F))), op.fresh = ∅ := fun op h => by
    simp only [ops, List.mem_append] at h
    rcases h with h | h
    exacts [List.forall_iff_forall_mem.mp ops_part0_fresh op h, List.forall_iff_forall_mem.mp ops_part1_fresh op h]

set_option maxRecDepth 8192 in
/-- `main_v6`'s composed term of the arguments (named: it is used 6 times). -/
def res_main_v6 (V0 : Valuation τ sig (Elt F)) : (Proc.devRef .tc main_v6 : DevRef τ sig).ty.Contents (Elt F) :=
  Host.gather gather_S10000x3_S5000x1_S5000x3_1_0_n_n_0_1_13 (V0 (Proc.devRef .tc main_arg0)) (broadcastInDim S5000x1 ![0] bcast_S5000_S5000x1_0 (select (cmpi .slt (V0 (Proc.devRef .tc main_arg1)) (broadcastInDim S5000 ![] bcast_S_S5000 (constantI S_ 32 0#32))) (addi (V0 (Proc.devRef .tc main_arg1)) (broadcastInDim S5000 ![] bcast_S_S5000 (constantI S_ 32 10000#32))) (V0 (Proc.devRef .tc main_arg1))))

set_option maxRecDepth 8192 in
/-- `main_v8`'s composed term of the arguments (named: it is used 2 times). -/
def res_main_v8 (V0 : Valuation τ sig (Elt F)) : (Proc.devRef .tc main_v8 : DevRef τ sig).ty.Contents (Elt F) :=
  Host.reduceAdd (mulf (res_main_v6 V0) (res_main_v6 V0)) (constant S_ .f32 0x00000000#32) reducesTo_S5000x3_S5000_d1 h_S_

set_option maxRecDepth 8192 in
/-- `main_v28`'s composed term of the arguments (named: it is used 2 times). -/
def res_main_v28 (V0 : Valuation τ sig (Elt F)) : (Proc.devRef .tc main_v28 : DevRef τ sig).ty.Contents (Elt F) :=
  Host.negf (addf (subf (addf (broadcastInDim S5000x5000 ![0, 1] bcast_S5000x1_S5000x5000_0_1 (broadcastInDim S5000x1 ![0] bcast_S5000_S5000x1_0 (res_main_v8 V0))) (broadcastInDim S5000x5000 ![0, 1] bcast_S1x5000_S5000x5000_0_1 (broadcastInDim S1x5000 ![1] bcast_S5000_S1x5000_1 (res_main_v8 V0)))) (mulf (broadcastInDim S5000x5000 ![] bcast_S_S5000x5000 (constant S_ .f32 0x40000000#32)) (Host.dotGeneral dot_S5000x3_S3x5000_S5000x5000_1_0_0_1_n_n none (res_main_v6 V0) (transpose S3x5000 [1, 0] (res_main_v6 V0) transposes_S5000x3_S3x5000_1_0)))) (mulf (uitofp .f32 (cmpi .eq (addi (iotaInDim S5000x5000 32 0) (broadcastInDim S5000x5000 ![] bcast_S_S5000x5000 (constantI S_ 32 0#32))) (iotaInDim S5000x5000 32 1))) (broadcastInDim S5000x5000 ![] bcast_S_S5000x5000 (constant S_ .f32 0x501502F9#32))))

set_option maxRecDepth 8192 in
/-- `main_v31`'s composed term of the arguments (named: it is used 2 times). -/
def res_main_v31 (V0 : Valuation τ sig (Elt F)) : (Proc.devRef .tc main_v31 : DevRef τ sig).ty.Contents (Elt F) :=
  shapeCast _ (broadcastInDim S5000x50 ![0] bcast_S5000_S5000x50_0 (iotaInDim S5000 32 0)) shapeCasts_S5000x50_S250000

set_option maxRecDepth 8192 in
/-- `main_v32`'s composed term of the arguments (named: it is used 2 times). -/
def res_main_v32 (V0 : Valuation τ sig (Elt F)) : (Proc.devRef .tc main_v32 : DevRef τ sig).ty.Contents (Elt F) :=
  shapeCast _ ((Host.topK S5000x50 1 (FloatOps.cmpfTotal .gt) (res_main_v28 V0) sliceFits_S5000x5000_S5000x50).2) shapeCasts_S5000x50_S250000

set_option maxRecDepth 8192 in
/-- `main_v33`'s composed term of the arguments (named: it is used 4 times). -/
def res_main_v33 (V0 : Valuation τ sig (Elt F)) : (Proc.devRef .tc main_v33 : DevRef τ sig).ty.Contents (Elt F) :=
  concatenate S500000 0 [⟨S250000, (res_main_v32 V0)⟩, ⟨S250000, (res_main_v31 V0)⟩] concatenates_S250000_S250000_S500000_d0

set_option maxRecDepth 8192 in
/-- `main_v34`'s composed term of the arguments (named: it is used 4 times). -/
def res_main_v34 (V0 : Valuation τ sig (Elt F)) : (Proc.devRef .tc main_v34 : DevRef τ sig).ty.Contents (Elt F) :=
  concatenate S500000 0 [⟨S250000, (res_main_v31 V0)⟩, ⟨S250000, (res_main_v32 V0)⟩] concatenates_S250000_S250000_S500000_d0

set_option maxRecDepth 8192 in
/-- `main_v52`'s composed term of the arguments (named: it is used 2 times). -/
def res_main_v52 (V0 : Valuation τ sig (Elt F)) : (Proc.devRef .tc main_v52 : DevRef τ sig).ty.Contents (Elt F) :=
  subf (Host.gather gather_S5000x3_S500000x1_S500000x3_1_0_n_n_0_1_13 (res_main_v6 V0) (broadcastInDim S500000x1 ![0] bcast_S500000_S500000x1_0 (select (cmpi .slt (res_main_v34 V0) (broadcastInDim S500000 ![] bcast_S_S500000 (constantI S_ 32 0#32))) (addi (res_main_v34 V0) (broadcastInDim S500000 ![] bcast_S_S500000 (constantI S_ 32 5000#32))) (res_main_v34 V0)))) (Host.gather gather_S5000x3_S500000x1_S500000x3_1_0_n_n_0_1_13 (res_main_v6 V0) (broadcastInDim S500000x1 ![0] bcast_S500000_S500000x1_0 (select (cmpi .slt (res_main_v33 V0) (broadcastInDim S500000 ![] bcast_S_S500000 (constantI S_ 32 0#32))) (addi (res_main_v33 V0) (broadcastInDim S500000 ![] bcast_S_S500000 (constantI S_ 32 5000#32))) (res_main_v33 V0))))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  id (constant S_ .f32 0x00000000#32)

set_option maxRecDepth 8192 in
/-- `main_call0_v1`'s composed term of the arguments (named: it is used 3 times). -/
def res_main_call0_v1 (V0 : Valuation τ sig (Elt F)) : (Proc.devRef .tc main_call0_v1 : DevRef τ sig).ty.Contents (Elt F) :=
  id (constant S_ .f32 0x41200000#32)

set_option maxRecDepth 8192 in
/-- `main_call0_v6`'s composed term of the arguments (named: it is used 2 times). -/
def res_main_call0_v6 (V0 : Valuation τ sig (Elt F)) : (Proc.devRef .tc main_call0_v6 : DevRef τ sig).ty.Contents (Elt F) :=
  Host.divf (sitofp .f32 (iotaInDim S4 32 0)) (broadcastInDim S4 ![] bcast_S_S4 (constant S_ .f32 0x40800000#32))

set_option maxRecDepth 8192 in
/-- `main_v58`'s composed term of the arguments (named: it is used 3 times). -/
def res_main_v58 (V0 : Valuation τ sig (Elt F)) : (Proc.devRef .tc main_v58 : DevRef τ sig).ty.Contents (Elt F) :=
  concatenate S5 0 [⟨S4, (addf (mulf (broadcastInDim S4 ![0] bcast_S1_S4_0 (shapeCast _ (res_main_call0_v0 V0) shapeCasts_S_S1)) (subf (broadcastInDim S4 ![] bcast_S_S4 (constant S_ .f32 0x3F800000#32)) (res_main_call0_v6 V0))) (mulf (broadcastInDim S4 ![0] bcast_S1_S4_0 (shapeCast _ (res_main_call0_v1 V0) shapeCasts_S_S1)) (res_main_call0_v6 V0)))⟩, ⟨S1, (broadcastInDim S1 ![] bcast_S_S1 (res_main_call0_v1 V0))⟩] concatenates_S4_S1_S5_d0

set_option maxRecDepth 8192 in
/-- `main_v63`'s composed term of the arguments (named: it is used 2 times). -/
def res_main_v63 (V0 : Valuation τ sig (Elt F)) : (Proc.devRef .tc main_v63 : DevRef τ sig).ty.Contents (Elt F) :=
  subf (shapeCast _ (extractStridedSlice S1 ![1] (res_main_v58 V0) slices_S5_S1_1) shapeCasts_S1_S_) (shapeCast _ (extractStridedSlice S1 ![0] (res_main_v58 V0) slices_S5_S1_0) shapeCasts_S1_S_)

set_option maxRecDepth 8192 in
/-- `main_v68`'s composed term of the arguments (named: it is used 2 times). -/
def res_main_v68 (V0 : Valuation τ sig (Elt F)) : (Proc.devRef .tc main_v68 : DevRef τ sig).ty.Contents (Elt F) :=
  subf (broadcastInDim S500000x5 ![0, 1] bcast_S500000x1_S500000x5_0_1 (broadcastInDim S500000x1 ![0] bcast_S500000_S500000x1_0 (Host.sqrt (addf (Host.reduceAdd (mulf (res_main_v52 V0) (res_main_v52 V0)) (constant S_ .f32 0x00000000#32) reducesTo_S500000x3_S500000_d1 h_S_) (broadcastInDim S500000 ![] bcast_S_S500000 (constant S_ .f32 0x2B8CBCCC#32)))))) (broadcastInDim S500000x5 ![0, 1] bcast_S1x5_S500000x5_0_1 (broadcastInDim S1x5 ![1] bcast_S5_S1x5_1 (res_main_v58 V0)))

/-- The device's buffer contents before @main's first window. -/
def val0 (V0 : Valuation τ sig (Elt F)) : Valuation τ sig (Elt F) := V0
/-- The contents of `main_arg0` at first. -/
theorem val0_main_arg0 (V0 : Valuation τ sig (Elt F)) : val0 V0 (no_index (Proc.devRef .tc main_arg0)) = V0 (Proc.devRef .tc main_arg0) := rfl
/-- The contents of `main_arg1` at first. -/
theorem val0_main_arg1 (V0 : Valuation τ sig (Elt F)) : val0 V0 (no_index (Proc.devRef .tc main_arg1)) = V0 (Proc.devRef .tc main_arg1) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_c, main_v0, main_v1, main_c_0, main_v2, main_v3, main_v4, main_v5, main_v6, main_v7, main_cst, main_v8, main_v9, main_v10, main_v11, main_v12, main_v13, main_v14, main_v15, main_cst_1, main_v16, main_v17, main_v18, main_v19, main_v20, main_c_2, main_v21, main_v22, main_v23, main_v24, main_cst_3, main_v25, main_v26, main_v27, main_v28, main_values, main_indices, main_v29, main_v30, main_v31, main_v32, main_v33, main_v34, main_v35, main_v36, main_v37, main_c_4, main_v38, main_v39, main_c_5, main_v40, main_v41, main_v42, main_v43, main_v44, main_c_6, main_v45, main_v46, main_c_7, main_v47]
set_option maxRecDepth 8192 in
/-- What the first window writes. -/
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
/-- The contents of `main_arg0` after the first window. -/
theorem val1_main_arg0 (V0 : Valuation τ sig (Elt F)) : val1 V0 (no_index (Proc.devRef .tc main_arg0)) = V0 (Proc.devRef .tc main_arg0) :=
  (val1_keep V0 main_arg0 (by decide)).trans (val0_main_arg0 V0)
/-- The contents of `main_arg1` after the first window. -/
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxRecDepth 8192 in
set_option maxHeartbeats 2000000 in
/-- The contents of `main_v6` after the first window. -/
theorem val1_main_v6 (V0 : Valuation τ sig (Elt F)) : val1 V0 (no_index (Proc.devRef .tc main_v6)) = res_main_v6 V0 := by
  unfold val1
  simp only [ops_part0]
  after_results_simp
  simp only [val0_main_arg1, val0_main_arg0] <;> rfl
set_option maxRecDepth 8192 in
set_option maxHeartbeats 2000000 in
/-- The contents of `main_v33` after the first window. -/
theorem val1_main_v33 (V0 : Valuation τ sig (Elt F)) : val1 V0 (no_index (Proc.devRef .tc main_v33)) = res_main_v33 V0 := by
  unfold val1
  simp only [ops_part0]
  after_results_simp
  simp only [val0_main_arg1, val0_main_arg0] <;> rfl
set_option maxRecDepth 8192 in
set_option maxHeartbeats 2000000 in
/-- The contents of `main_v37` after the first window. -/
theorem val1_main_v37 (V0 : Valuation τ sig (Elt F)) : val1 V0 (no_index (Proc.devRef .tc main_v37)) = concatenate S2x500000 0 [⟨S1x500000, (broadcastInDim S1x500000 ![1] bcast_S500000_S1x500000_1 (res_main_v33 V0))⟩, ⟨S1x500000, (broadcastInDim S1x500000 ![1] bcast_S500000_S1x500000_1 (res_main_v34 V0))⟩] concatenates_S1x500000_S1x500000_S2x500000_d0 := by
  unfold val1
  simp only [ops_part0]
  after_results_simp
  simp only [val0_main_arg1, val0_main_arg0] <;> rfl
set_option maxRecDepth 8192 in
set_option maxHeartbeats 2000000 in
/-- The contents of `main_v44` after the first window. -/
theorem val1_main_v44 (V0 : Valuation τ sig (Elt F)) : val1 V0 (no_index (Proc.devRef .tc main_v44)) = Host.gather gather_S5000x3_S500000x1_S500000x3_1_0_n_n_0_1_13 (res_main_v6 V0) (broadcastInDim S500000x1 ![0] bcast_S500000_S500000x1_0 (select (cmpi .slt (res_main_v34 V0) (broadcastInDim S500000 ![] bcast_S_S500000 (constantI S_ 32 0#32))) (addi (res_main_v34 V0) (broadcastInDim S500000 ![] bcast_S_S500000 (constantI S_ 32 5000#32))) (res_main_v34 V0))) := by
  unfold val1
  simp only [ops_part0]
  after_results_simp
  simp only [val0_main_arg1, val0_main_arg0] <;> rfl
set_option maxRecDepth 8192 in
set_option maxHeartbeats 2000000 in
/-- The contents of `main_v46` after the first window. -/
theorem val1_main_v46 (V0 : Valuation τ sig (Elt F)) : val1 V0 (no_index (Proc.devRef .tc main_v46)) = cmpi .slt (res_main_v33 V0) (broadcastInDim S500000 ![] bcast_S_S500000 (constantI S_ 32 0#32)) := by
  unfold val1
  simp only [ops_part0]
  after_results_simp
  simp only [val0_main_arg1, val0_main_arg0] <;> rfl
set_option maxRecDepth 8192 in
set_option maxHeartbeats 2000000 in
/-- The contents of `main_v47` after the first window. -/
theorem val1_main_v47 (V0 : Valuation τ sig (Elt F)) : val1 V0 (no_index (Proc.devRef .tc main_v47)) = broadcastInDim S500000 ![] bcast_S_S500000 (constantI S_ 32 5000#32) := by
  unfold val1
  simp only [ops_part0]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v48, main_v49, main_v50, main_v51, main_v52, main_v53, main_cst_8, main_v54, main_cst_9, main_v55, main_v56, main_v57, main_cst_10, main_cst_11, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v58, main_v59, main_v60, main_v61, main_v62, main_v63, main_v64, main_v65, main_v66, main_v67, main_v68, main_v69, main_v70, main_cst_12, main_v71, main_v72, main_v73, main_v74, main_v75]
set_option maxRecDepth 8192 in
/-- What the second window writes. -/
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- The contents of `main_arg0` after both windows. -/
theorem val2_main_arg0 (V0 : Valuation τ sig (Elt F)) : val2 V0 (no_index (Proc.devRef .tc main_arg0)) = V0 (Proc.devRef .tc main_arg0) :=
  (val2_keep V0 main_arg0 (by decide)).trans (val1_main_arg0 V0)
/-- The contents of `main_arg1` after both windows. -/
theorem val2_main_arg1 (V0 : Valuation τ sig (Elt F)) : val2 V0 (no_index (Proc.devRef .tc main_arg1)) = V0 (Proc.devRef .tc main_arg1) :=
  (val2_keep V0 main_arg1 (by decide)).trans (val1_main_arg1 V0)
/-- The contents of `main_v6` after both windows. -/
theorem val2_main_v6 (V0 : Valuation τ sig (Elt F)) : val2 V0 (no_index (Proc.devRef .tc main_v6)) = res_main_v6 V0 :=
  (val2_keep V0 main_v6 (by decide)).trans (val1_main_v6 V0)
/-- The contents of `main_v37` after both windows. -/
theorem val2_main_v37 (V0 : Valuation τ sig (Elt F)) : val2 V0 (no_index (Proc.devRef .tc main_v37)) = concatenate S2x500000 0 [⟨S1x500000, (broadcastInDim S1x500000 ![1] bcast_S500000_S1x500000_1 (res_main_v33 V0))⟩, ⟨S1x500000, (broadcastInDim S1x500000 ![1] bcast_S500000_S1x500000_1 (res_main_v34 V0))⟩] concatenates_S1x500000_S1x500000_S2x500000_d0 :=
  (val2_keep V0 main_v37 (by decide)).trans (val1_main_v37 V0)
set_option maxRecDepth 8192 in
set_option maxHeartbeats 2000000 in
/-- The contents of `main_v75` after both windows. -/
theorem val2_main_v75 (V0 : Valuation τ sig (Elt F)) : val2 V0 (no_index (Proc.devRef .tc main_v75)) = Host.exp (Host.divf (Host.negf (mulf (res_main_v68 V0) (res_main_v68 V0))) (broadcastInDim S500000x5 ![] bcast_S_S500000x5 (mulf (mulf (constant S_ .f32 0x40000000#32) (res_main_v63 V0)) (res_main_v63 V0)))) := by
  unfold val2
  simp only [ops_part1, TRef.binary, TRef.nullary, TRef.reshape, TRef.unary, TRef.toBuf, TRef.ofBuf, cast_eq]
  after_results_simp
  simp only [val1_main_v33, val1_main_v47, val1_main_v46, val1_main_v6, val1_main_v44] <;> rfl

/-- The contents after all operations. -/
theorem after_ops (V0 : Valuation τ sig (Elt F)) : after ops V0 = val2 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = res_main_v6 (launchContents m c)
      ∧ r.2.mem ((c.tc : Thread nD τ).loc main_v37) = concatenate S2x500000 0 [⟨S1x500000, (broadcastInDim S1x500000 ![1] bcast_S500000_S1x500000_1 (res_main_v33 (launchContents m c)))⟩, ⟨S1x500000, (broadcastInDim S1x500000 ![1] bcast_S500000_S1x500000_1 (res_main_v34 (launchContents m c)))⟩] concatenates_S1x500000_S1x500000_S2x500000_d0
      ∧ r.2.mem ((c.tc : Thread nD τ).loc main_v75) = Host.exp (Host.divf (Host.negf (mulf (res_main_v68 (launchContents m c)) (res_main_v68 (launchContents m c)))) (broadcastInDim S500000x5 ![] bcast_S_S500000x5 (mulf (mulf (constant S_ .f32 0x40000000#32) (res_main_v63 (launchContents m c))) (res_main_v63 (launchContents m c)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans ((congrFun (after_ops (launchContents m c)) (Proc.devRef .tc main_v6)).trans (val2_main_v6 (launchContents m c))),
      (h c main_v37).trans ((congrFun (after_ops (launchContents m c)) (Proc.devRef .tc main_v37)).trans (val2_main_v37 (launchContents m c))),
      (h c main_v75).trans ((congrFun (after_ops (launchContents m c)) (Proc.devRef .tc main_v75)).trans (val2_main_v75 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c)))⟩)
    (run_seq scopedRefs_eq scopedSems_eq defs main (fun _ => ops) main_eq (fun _ => ops_sub) m ρ fun _ => ops_fresh)

end Cert.ReferenceIdeal.Terms

end
-- ==== Proof.Ranked.lean ====
/- The positions of the greatest entries of each row of a square table, read at an index. -/
module

public import Idealize.ShloMosaic.Lib.Pointwise
public import Idealize.ShloMosaic.PureOps.Ideal.Laws

@[expose] public section

set_option maxRecDepth 16384

noncomputable section

namespace Cert.Knn.Ranked

open Idealize.ShloMosaic

/-- The positions of the greatest entries of row `q` are the row's columns in decreasing order, equal entries in column order. -/
theorem topk_row {n k : ℕ} (x : (⟨2, ![n, n]⟩ : Shape).Idx → EReal) (h : (⟨2, ![n, n]⟩ : Shape).Slices (fun _ => 0) ⟨2, ![n, k]⟩)
    (q : Fin n) (m : Fin k) (hm : m.val < n) :
    (Host.topK (⟨2, ![n, k]⟩ : Shape) 1 (FloatOps.cmpfTotal (F := Ideal) (φ := .f32) .gt) x h).2 (ix2 q m) =
      BitVec.ofNat 32 (sortedFrom (fun a b : Fin n => decide (x (ix2 q b) < x (ix2 q a))) ⟨m.val, hm⟩).val := by
  have hs : ∀ y : (⟨2, ![n, n]⟩ : Shape).Idx → BitVec 32, extractStridedSlice (⟨2, ![n, k]⟩ : Shape) (fun _ => 0) y h (ix2 q m) = y (ix2 q ⟨m.val, hm⟩) := by
    intro y
    unfold extractStridedSlice
    congr 1
    funext a
    refine Fin.ext ?_
    match a with
    | ⟨0, _⟩ => exact Nat.zero_add _
    | ⟨1, _⟩ => exact Nat.zero_add _
  have ha : ∀ (j k : Fin n), (ix2 q j : (⟨2, ![n, n]⟩ : Shape).Idx).along 1 k = ix2 q k := by
    intro j k
    funext a
    match a with
    | ⟨0, _⟩ => exact Function.update_of_ne (fun e => absurd (congrArg Fin.val e) Nat.zero_ne_one) _ _
    | ⟨1, _⟩ => exact Function.update_self _ _ _
  unfold Host.topK Host.sort2
  dsimp only
  rw [dif_pos (show 1 < (⟨2, ![n, n]⟩ : Shape).rank from Nat.one_lt_two), hs]
  have hc : (fun k k' : Fin n => FloatOps.cmpfTotal (F := Ideal) (φ := .f32) .gt (x ((ix2 q ⟨m.val, hm⟩ : (⟨2, ![n, n]⟩ : Shape).Idx).along 1 k))
      (x ((ix2 q ⟨m.val, hm⟩ : (⟨2, ![n, n]⟩ : Shape).Idx).along 1 k')) == 1#1) = fun a b => decide (x (ix2 q b) < x (ix2 q a)) := by
    funext k k'
    rw [ha, ha]
    show (BitVec.ofBool (decide _) == 1#1) = decide _
    cases decide (x (ix2 q k') < x (ix2 q k)) <;> rfl
  show BitVec.ofNat 32 (((ix2 q ⟨m.val, hm⟩ : (⟨2, ![n, n]⟩ : Shape).Idx).along 1 (sortedFrom (fun k k' : Fin n =>
      FloatOps.cmpfTotal (F := Ideal) (φ := .f32) .gt (x ((ix2 q ⟨m.val, hm⟩ : (⟨2, ![n, n]⟩ : Shape).Idx).along 1 k))
      (x ((ix2 q ⟨m.val, hm⟩ : (⟨2, ![n, n]⟩ : Shape).Idx).along 1 k')) == 1#1) ⟨m.val, hm⟩)) 1).val = _
  rw [hc]
  exact congrArg (fun i : (⟨2, ![n, n]⟩ : Shape).Idx => BitVec.ofNat 32 (i 1).val) (ha _ _)

end Cert.Knn.Ranked

end
-- ==== Proof.RefValue.lean ====
/- What the reference computes, read at an index: its neighbours are the nearest points, its attributes the bells of their distances. -/
module

public import proofs.«01_k».proof.Proof.RefRun
public import proofs.«01_k».proof.Proof.Dist
public import proofs.«01_k».proof.Proof.Ranked
public import Idealize.ShloMosaic.Lib.Pointwise
public import Idealize.ShloMosaic.Lib.Routing.Ops
public import Idealize.ShloMosaic.Lib.Tactic.CleanTypes

@[expose] public section

set_option maxRecDepth 16384

noncomputable section

namespace Cert.ReferenceIdeal.Terms

open Idealize.ShloMosaic Idealize.ShloMosaic.TcCoe Idealize.ShloMosaic.Tactic Idealize.ShloMosaic.StableHlo Idealize.SL.Sem
open Cert.ReferenceIdeal Cert.ReferenceIdeal.Gen Cert.Knn.Dist

variable (V0 : Valuation τ sig (Elt Ideal))

/-- The kept points. -/
abbrev t6 : S5000x3.Idx → EReal := res_main_v6 V0
/-- Their squared lengths. -/
abbrev t8 : S5000.Idx → EReal := res_main_v8 V0
/-- The negated distance table. -/
abbrev t28 : S5000x5000.Idx → EReal := res_main_v28 V0
/-- The differences of the edges' ends. -/
abbrev t52 : S500000x3.Idx → EReal := res_main_v52 V0
/-- The centres of the bins. -/
abbrev t58 : S5.Idx → EReal := res_main_v58 V0
/-- The width of the bins. -/
abbrev t63 : S_.Idx → EReal := res_main_v63 V0
/-- The distances less the centres. -/
abbrev t68 : S500000x5.Idx → EReal := res_main_v68 V0

/-! ## The terms read at an index -/

/-- The squared length of a point. -/
theorem read_8 (q : Fin 5000) : t8 V0 (ix1 q) =
    ∑ x : Fin 3, (t6 V0 (ix2 q x) * t6 V0 (ix2 q x) : EReal) := by
  unfold t8 res_main_v8
  clean_types
  pointwise

/-- The negated distance table. -/
theorem read_28 (q j : Fin 5000) : t28 V0 (ix2 q j) =
    (-(t8 V0 (ix1 q) + t8 V0 (ix1 j) -
          Ideal.ofBits FTy.f32 1073741824#32 * ∑ x : Fin 3, (t6 V0 (ix2 q x) * t6 V0 (ix2 j x) : EReal) +
        FloatOps.uitofp (F := Ideal) FTy.f32
            (IntOp.cmpi CmpIPredicate.eq (IntOp.addi (BitVec.ofNat 32 q.val) 0#32) (BitVec.ofNat 32 j.val)) *
          Ideal.ofBits FTy.f32 1343554297#32) : EReal) := by
  unfold t28 res_main_v28
  clean_types
  pointwise

/-- The neighbours, edge by edge. -/
theorem read_32 (e : Fin 250000) : (res_main_v32 V0 (ix1 e) : BitVec 32) =
    (Host.topK S5000x50 1 (FloatOps.cmpfTotal (F := Ideal) (φ := .f32) CmpDirection.gt) (res_main_v28 V0) sliceFits_S5000x5000_S5000x50).2
      (ix2 ⟨e.val / 50, by omega⟩ ⟨e.val % 50, by omega⟩) := by
  unfold res_main_v32
  clean_types
  pointwise

/-- The points' own numbers, edge by edge. -/
theorem read_31 (e : Fin 250000) : (res_main_v31 V0 (ix1 e) : BitVec 32) = BitVec.ofNat 32 (e.val / 50) := by
  unfold res_main_v31
  clean_types
  pointwise

/-- The first row of the edge list. -/
theorem read_33 (e : Fin 500000) : (res_main_v33 V0 (ix1 e) : BitVec 32) =
    if h : e.val < 250000 then (res_main_v32 V0 (ix1 ⟨e.val, h⟩) : BitVec 32) else res_main_v31 V0 (ix1 ⟨e.val - 250000, by omega⟩) := by
  unfold res_main_v33
  clean_types
  pointwise

/-- The second row of the edge list. -/
theorem read_34 (e : Fin 500000) : (res_main_v34 V0 (ix1 e) : BitVec 32) =
    if h : e.val < 250000 then (res_main_v31 V0 (ix1 ⟨e.val, h⟩) : BitVec 32) else res_main_v32 V0 (ix1 ⟨e.val - 250000, by omega⟩) := by
  unfold res_main_v34
  clean_types
  pointwise

/-- A column of row numbers, a negative one counted from the end. -/
def column (w : S500000.Idx → BitVec 32) : S500000x1.Idx → BitVec 32 :=
  broadcastInDim S500000x1 ![0] bcast_S500000_S500000x1_0
    (select (cmpi CmpIPredicate.slt w (broadcastInDim S500000 ![] bcast_S_S500000 (constantI S_ 32 0#32)))
      (addi w (broadcastInDim S500000 ![] bcast_S_S500000 (constantI S_ 32 5000#32))) w)

/-- A row number that is in range stands in the column as it is. -/
theorem column_apply (w : S500000.Idx → BitVec 32) (e : Fin 500000) {r : ℕ} (hr : r < 5000) (h : w (ix1 e) = BitVec.ofNat 32 r) :
    column w (ix2 e 0) = BitVec.ofNat 32 r := by
  unfold column
  pointwise
  rw [h]
  have hn : IntOp.cmpi CmpIPredicate.slt (BitVec.ofNat 32 r) 0#32 = 0#1 := by
    have : ¬ (BitVec.ofNat 32 r).toInt < (0#32).toInt := by
      rw [StableHlo.Predicate.toInt_ofNat_small _ (by omega)]
      simp
    unfold IntOp.cmpi
    show BitVec.ofBool (decide ((BitVec.ofNat 32 r).toInt < (0#32).toInt)) = 0#1
    rw [decide_eq_false this]
    rfl
  rw [hn]
  rfl

/-- The difference between an edge's two ends. -/
theorem read_52 (e : Fin 500000) (x : Fin 3) : t52 V0 (ix2 e x) =
    (Host.gather gather_S5000x3_S500000x1_S500000x3_1_0_n_n_0_1_13 (res_main_v6 V0) (column (res_main_v34 V0)) (ix2 e x) : EReal) -
      (Host.gather gather_S5000x3_S500000x1_S500000x3_1_0_n_n_0_1_13 (res_main_v6 V0) (column (res_main_v33 V0)) (ix2 e x) : EReal) := by
  unfold t52 res_main_v52
  clean_types
  pointwise
  rfl

/-- The distance of an edge's two ends, less the centre of a bin. -/
theorem read_68 (e : Fin 500000) (k : Fin 5) : t68 V0 (ix2 e k) =
    Ideal.sqrt ((∑ x : Fin 3, (t52 V0 (ix2 e x) * t52 V0 (ix2 e x) : EReal)) + Ideal.ofBits .f32 730643660#32) - t58 V0 (ix1 k) := by
  unfold t68 res_main_v68
  clean_types
  pointwise

/-- The number of bins less one, as a real. -/
theorem bits_four : Ideal.ofBits .f32 1082130432#32 = ((4 : ℝ) : EReal) := by
  simp [Ideal.ofBits, Ideal.ieee, -EReal.coe_mul]; norm_num

/-- The last centre, as a real. -/
theorem bits_ten : Ideal.ofBits .f32 1092616192#32 = ((10 : ℝ) : EReal) := by
  simp [Ideal.ofBits, Ideal.ieee, -EReal.coe_mul]; norm_num

/-- The first centre. -/
theorem first_centre : (res_main_call0_v0 V0 ix0 : EReal) = ((0 : ℝ) : EReal) := by
  unfold res_main_call0_v0
  clean_types
  show Ideal.ofBits .f32 0#32 = _
  simp [Ideal.ofBits, Ideal.ieee, -EReal.coe_mul]

/-- The last centre. -/
theorem last_centre : (res_main_call0_v1 V0 ix0 : EReal) = ((10 : ℝ) : EReal) := by
  unfold res_main_call0_v1
  clean_types
  exact bits_ten

/-- The share of the way from the first centre to the last. -/
theorem share (k : Fin 4) : (res_main_call0_v6 V0 (ix1 k) : EReal) = ((k.val / 4 : ℝ) : EReal) := by
  unfold res_main_call0_v6
  clean_types
  pointwise
  rw [bits_four]
  show Ideal.div (((BitVec.ofNat 32 k.val).toInt : ℝ) : EReal) _ = _
  rw [Ideal.div_coe (by norm_num), StableHlo.Predicate.toInt_ofNat_small _ (by omega), ← EReal.coe_mul]
  congr 1
  push_cast
  ring

/-- The centres are evenly spaced. -/
theorem read_58 (k : Fin 5) : t58 V0 (ix1 k) = ((5 / 2 * k.val : ℝ) : EReal) := by
  unfold t58 res_main_v58
  clean_types
  pointwise
  split
  · next h =>
    rw [first_centre, last_centre, share, show (1 : EReal) = ((1 : ℝ) : EReal) from rfl, ← EReal.coe_sub, ← EReal.coe_mul, ← EReal.coe_mul, ← EReal.coe_add]
    congr 1
    show (0 : ℝ) * (1 - (k.val : ℝ) / 4) + 10 * ((k.val : ℝ) / 4) = 5 / 2 * k.val
    ring
  · next h =>
    rw [last_centre]
    have : k.val = 4 := by omega
    rw [this]
    norm_num

/-- The width is that of one space. -/
theorem read_63 : t63 V0 ix0 = ((5 / 2 : ℝ) : EReal) := by
  have : t63 V0 ix0 = t58 V0 (ix1 1) - t58 V0 (ix1 0) := by
    unfold t63 res_main_v63
    clean_types
    pointwise
  rw [this, read_58, read_58, ← EReal.coe_sub]
  norm_num

/-- The attributes, as the reference's last operations compute them. -/
abbrev bells : S500000x5.Idx → EReal :=
  Host.exp (Host.divf (Host.negf (mulf (res_main_v68 V0) (res_main_v68 V0))) (broadcastInDim S500000x5 ![] bcast_S_S500000x5 (mulf (mulf (constant S_ .f32 0x40000000#32) (res_main_v63 V0)) (res_main_v63 V0))))

/-- The attributes read at an index. -/
theorem read_bells (e : Fin 500000) (k : Fin 5) : bells V0 (ix2 e k) =
    Ideal.exp (Ideal.div (-(t68 V0 (ix2 e k) * t68 V0 (ix2 e k))) (Ideal.ofBits FTy.f32 1073741824#32 * t63 V0 ix0 * t63 V0 ix0)) := by
  unfold bells
  pointwise

/-! ## Their values -/

/-- The edge list, as the reference's last operations compute it. -/
abbrev pairs : S2x500000.Idx → BitVec 32 :=
  concatenate S2x500000 0 [⟨S1x500000, (broadcastInDim S1x500000 ![1] bcast_S500000_S1x500000_1 (res_main_v33 V0))⟩, ⟨S1x500000, (broadcastInDim S1x500000 ![1] bcast_S500000_S1x500000_1 (res_main_v34 V0))⟩] concatenates_S1x500000_S1x500000_S2x500000_d0

/-- The first row of the edge list. -/
theorem read_first (e : Fin 500000) : pairs V0 (ix2 0 e) = (res_main_v33 V0 (ix1 e) : BitVec 32) := by
  unfold pairs
  pointwise

/-- The second row of the edge list. -/
theorem read_second (e : Fin 500000) : pairs V0 (ix2 1 e) = (res_main_v34 V0 (ix1 e) : BitVec 32) := by
  unfold pairs
  pointwise

/-- The large number on the diagonal. -/
theorem diagonal (q j : Fin 5000) : FloatOps.uitofp (F := Ideal) FTy.f32
      (IntOp.cmpi CmpIPredicate.eq (IntOp.addi (BitVec.ofNat 32 q.val) 0#32) (BitVec.ofNat 32 j.val)) * ((10000000000 : ℝ) : EReal) =
    ((if j.val = q.val then 10000000000 else 0 : ℝ) : EReal) := by
  have e : IntOp.cmpi CmpIPredicate.eq (IntOp.addi (BitVec.ofNat 32 q.val) 0#32) (BitVec.ofNat 32 j.val) = BitVec.ofBool (decide (j.val = q.val)) := by
    show BitVec.ofBool (BitVec.ofNat 32 q.val + 0#32 == BitVec.ofNat 32 j.val) = _
    rw [BitVec.add_zero]
    congr 1
    rw [Bool.eq_iff_iff, beq_iff_eq, decide_eq_true_iff]
    constructor
    · intro h
      have := congrArg BitVec.toNat h
      rw [BitVec.toNat_ofNat, BitVec.toNat_ofNat] at this
      omega
    · intro h
      rw [h]
  rw [e]
  show (((BitVec.ofBool (decide (j.val = q.val))).toNat : ℝ) : EReal) * _ = _
  by_cases h : j.val = q.val
  · rw [decide_eq_true h, if_pos h]
    show (((1 : ℕ) : ℝ) : EReal) * _ = _
    rw [Nat.cast_one, EReal.coe_one, one_mul]
  · rw [decide_eq_false h, if_neg h]
    show (((0 : ℕ) : ℝ) : EReal) * _ = _
    rw [Nat.cast_zero, EReal.coe_zero, zero_mul]

variable {P : ℕ → Fin 3 → ℝ} (h6 : ∀ (j : Fin 5000) (x : Fin 3), t6 V0 (ix2 j x) = (P j.val x : EReal))
include h6

/-- The table holds the negated entries. -/
theorem table (q j : Fin 5000) : t28 V0 (ix2 q j) = -(far P q.val j.val) := by
  rw [read_28, read_8, read_8, bits_two, bits_self, diagonal,
    spread (P := P) (q := j.val) (j := q.val) (A := fun x => t6 V0 (ix2 q x)) (B := fun x => t6 V0 (ix2 j x)) (h6 q) (h6 j), off_comm, ← EReal.coe_add]
  rfl

/-- The neighbours are the nearest points. -/
theorem nearest (e : Fin 250000) : (res_main_v32 V0 (ix1 e) : BitVec 32) = BitVec.ofNat 32 (near P (e.val / 50) (e.val % 50)) := by
  rw [read_32]
  refine (Cert.Knn.Ranked.topk_row (n := 5000) (k := 50) (t28 V0) _ ⟨e.val / 50, by omega⟩ ⟨e.val % 50, by omega⟩ (by show e.val % 50 < 5000; omega)).trans ?_
  unfold near
  rw [dif_pos (show e.val % 50 < 5000 by omega)]
  have hc : (fun a b : Fin 5000 => decide (t28 V0 (ix2 ⟨e.val / 50, by omega⟩ b) < t28 V0 (ix2 ⟨e.val / 50, by omega⟩ a))) =
      fun k k' : Fin 5000 => decide (far P (e.val / 50) k.val < far P (e.val / 50) k'.val) := by
    funext a b
    rw [table V0 h6, table V0 h6]
    exact decide_eq_decide.mpr EReal.neg_lt_neg_iff
  rw [hc]

/-- The first end of every edge. -/
theorem ends_first (e : Fin 500000) : (res_main_v33 V0 (ix1 e) : BitVec 32) = BitVec.ofNat 32 (first P e.val) := by
  rw [read_33]
  unfold first
  split
  · exact nearest V0 h6 _
  · exact read_31 V0 _

/-- The second end of every edge. -/
theorem ends_second (e : Fin 500000) : (res_main_v34 V0 (ix1 e) : BitVec 32) = BitVec.ofNat 32 (second P e.val) := by
  rw [read_34]
  unfold second
  split
  · exact read_31 V0 _
  · exact nearest V0 h6 _

/-- A row gathered is the point of that number. -/
theorem row (w : S500000.Idx → BitVec 32) (e : Fin 500000) (x : Fin 3) {r : ℕ} (hr : r < 5000) (h : w (ix1 e) = BitVec.ofNat 32 r) :
    Host.gather gather_S5000x3_S500000x1_S500000x3_1_0_n_n_0_1_13 (t6 V0) (column w) (ix2 e x) = (P r x : EReal) :=
  (Routing.gather_row gather_S5000x3_S500000x1_S500000x3_1_0_n_n_0_1_13 rfl rfl rfl rfl rfl (t6 V0) (column w) e x ⟨r, hr⟩
    (column_apply w e hr h) (by norm_num)).trans (h6 ⟨r, hr⟩ x)

/-- The squared distance of an edge's ends. -/
theorem edge_gap (e : Fin 500000) : (∑ x : Fin 3, t52 V0 (ix2 e x) * t52 V0 (ix2 e x)) = (gap P e.val : EReal) := by
  have h : ∀ x, t52 V0 (ix2 e x) = ((P (second P e.val) x - P (first P e.val) x : ℝ) : EReal) := fun x => by
    rw [read_52, EReal.coe_sub]
    exact congrArg₂ (fun a b : EReal => a - b) (row V0 h6 _ e x (second_lt P e.isLt) (ends_second V0 h6 e)) (row V0 h6 _ e x (first_lt P e.isLt) (ends_first V0 h6 e))
  rw [gap_eq]
  simp only [h, Fin.sum_univ_three, ← EReal.coe_mul, ← EReal.coe_add, off]
  congr 1
  ring

/-- The attributes of every edge. -/
theorem attributes (e : Fin 500000) (k : Fin 5) : bells V0 (ix2 e k) = att (gap P e.val) k.val := by
  rw [read_bells, read_63, bits_two, read_68, edge_gap V0 h6, read_58, bits_eps, root (gap_nonneg P e.val), ← EReal.coe_sub, ← EReal.coe_mul,
    ← EReal.coe_mul, ← EReal.coe_mul, ← EReal.coe_neg, show (2 * (5 / 2) * (5 / 2) : ℝ) = 25 / 2 by norm_num, bell]
  rfl

end Cert.ReferenceIdeal.Terms

end
-- ==== Proof.InRange.lean ====
/- The precondition read at an entry: every coordinate is a real number of magnitude at most 25000. -/
module

public import proofs.«01_k».proof.Proof.Gen.Pre_in_range
public import Idealize.ShloMosaic.Lib.ReduceAll
public import Idealize.ShloMosaic.Lib.Pointwise
public import Idealize.ShloMosaic.PureOps.Ideal.Laws

@[expose] public section

set_option maxRecDepth 16384

noncomputable section

namespace Cert.Pre_in_range

open Idealize.ShloMosaic Cert.Pre_in_range.Gen

/-- The bound, as a real. -/
theorem bits_bound : Ideal.ofBits .f32 0x46C35000#32 = ((25000 : ℝ) : EReal) := by
  simp [Ideal.ofBits, Ideal.ieee, -EReal.coe_mul]; norm_num

/-- An extended real whose absolute value is at most 25000 is a real of magnitude at most 25000. -/
theorem real_of_abs {x : EReal} (h : max x (-x) ≤ ((25000 : ℝ) : EReal)) : x = (x.toReal : EReal) ∧ |x.toReal| ≤ 25000 := by
  obtain ⟨h1, h2⟩ := max_le_iff.mp h
  induction x using EReal.rec with
  | bot => simp at h2
  | top => simp at h1
  | coe r =>
    rw [EReal.toReal_coe]
    refine ⟨rfl, abs_le.mpr ⟨?_, EReal.coe_le_coe_iff.mp h1⟩⟩
    rw [← EReal.coe_neg, EReal.coe_le_coe_iff] at h2
    linarith

/-- Under the precondition every coordinate is a real of magnitude at most 25000. -/
theorem entry (x : FVec Ideal S10000x3 .f32) (y : IVec S5000 32) (h : fn (F := Ideal) x y = fun _ => 1#1) (i : S10000x3.Idx) :
    (x i : EReal) = ((x i : EReal).toReal : EReal) ∧ |(x i : EReal).toReal| ≤ 25000 := by
  have e := congrFun h (Shape.Idx.first h_S_)
  unfold fn at e
  have hi : BitVec.ofBool (decide (max (x i : EReal) (-(x i : EReal)) ≤ Ideal.ofBits .f32 0x46C35000#32)) = 1#1 := Host.reduce_andi_all _ _ _ _ _ e i
  have hd : max (x i : EReal) (-(x i : EReal)) ≤ Ideal.ofBits .f32 0x46C35000#32 := by
    by_contra hn
    rw [decide_eq_false hn] at hi
    exact absurd hi (by decide)
  rw [bits_bound] at hd
  exact real_of_abs hd

end Cert.Pre_in_range

end
-- ==== Proof.lean ====
module

public import proofs.«01_k».proof.Defs
public import proofs.«01_k».proof.Proof.Gen.Pre_in_range
public import proofs.«01_k».proof.Proof.RunMachine
public import proofs.«01_k».proof.Proof.KernelOut
public import proofs.«01_k».proof.Proof.RefValue
public import proofs.«01_k».proof.Proof.InRange
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.StableHlo Cert.Knn.Dist

/-! ## The frames -/

/-- The kernel runs, leaves its arguments as they were and every counter at zero. -/
theorem frame_kernel : Cert.quiescent_Kernel := fun m g _ => Cert.Kernel.Run.frame m g

/-- So does its reading over the reals. -/
theorem frame_ideal : Cert.quiescent_KernelIdeal := fun m g _ => Cert.KernelIdeal.Run.frame m g

/-- So does it under the precondition. -/
theorem frame_ideal_in_range : Cert.quiescent_KernelIdeal_pre_in_range := fun m g _ => Cert.KernelIdeal.Run.frame m g

/-- The reference runs and leaves its arguments as they were; it has no counters. -/
theorem frame_reference : Cert.quiescent_ReferenceIdeal := fun m g _ =>
  (θ_run Cert.ReferenceIdeal.defs _ _).mono (fun r h => ⟨fun c => ⟨(h c).2.2.2.1, (h c).2.2.2.2⟩, sem_eq_zero_of_no_sems (by decide) r.2⟩)
    (Cert.ReferenceIdeal.Terms.run m g)

/-- So does it under the precondition. -/
theorem frame_reference_in_range : Cert.quiescent_ReferenceIdeal_pre_in_range := fun m g _ => frame_reference m g trivial

/-! ## The values -/

section Values

open Cert.KernelIdeal Cert.KernelIdeal.Gen Cert.KernelIdeal.Run

variable (m : (ℓ : Loc nD τ sig) → Buf (Elt Ideal) ℓ) (c : Dev nD)

/-- The rows of `x` whose numbers are in `y`, a negative number counted from the end. -/
def keep (x : S10000x3.Idx → EReal) (y : S5000.Idx → BitVec 32) : S5000x3.Idx → EReal :=
  Host.gather gather_S10000x3_S5000x1_S5000x3_1_0_n_n_0_1_13 x
    (broadcastInDim S5000x1 ![0] bcast_S5000_S5000x1_0
      (select (cmpi CmpIPredicate.slt y (broadcastInDim S5000 ![] bcast_S_S5000 (constantI S_ 32 0#32)))
        (addi y (broadcastInDim S5000 ![] bcast_S_S5000 (constantI S_ 32 10000#32))) y))

/-- The kernel's program keeps these rows of its arguments. -/
theorem keep_kept : kept m c = keep (m (c, Proc.devRef .tc main_arg0)) (m (c, Proc.devRef .tc main_arg1)) := rfl

/-- So does the reference. -/
theorem keep_reference (W : Valuation Cert.ReferenceIdeal.τ Cert.ReferenceIdeal.sig (Elt Ideal)) : Cert.ReferenceIdeal.Terms.t6 W =
    keep (W (Proc.devRef .tc Cert.ReferenceIdeal.main_arg0)) (W (Proc.devRef .tc Cert.ReferenceIdeal.main_arg1)) := by
  unfold Cert.ReferenceIdeal.Terms.t6 Cert.ReferenceIdeal.Terms.res_main_v6 keep
  rfl

/-- The kept points as real numbers. -/
def points (j : ℕ) (x : Fin 3) : ℝ := if h : j < 5000 then (kept m c (ix2 ⟨j, h⟩ x)).toReal else 0

variable (hpre : Cert.Pre_in_range.fn (F := Ideal) (m ((c.tc : Thread nD τ).loc main_arg0)) (m ((c.tc : Thread nD τ).loc main_arg1)) = fun _ => 1#1)
include hpre

/-- A kept point's coordinates are reals of magnitude at most 25000. -/
theorem kept_real (i : S5000x3.Idx) : kept m c i = ((kept m c i).toReal : EReal) ∧ |(kept m c i).toReal| ≤ 25000 :=
  Cert.Pre_in_range.entry _ _ hpre _

/-- The kept points are the real points. -/
theorem kept_points (j : Fin 5000) (x : Fin 3) : kept m c (ix2 j x) = (points m c j.val x : EReal) := by
  unfold points
  rw [dif_pos j.isLt]
  exact (kept_real m c hpre _).1

/-- The real points are in range. -/
theorem points_within : Within (points m c) := fun j hj x => by
  unfold points
  rw [dif_pos hj]
  exact (kept_real m c hpre _).2

variable (m' : (ℓ : Loc Cert.ReferenceIdeal.nD Cert.ReferenceIdeal.τ Cert.ReferenceIdeal.sig) → Buf (Elt Ideal) ℓ)
  (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
include h0 h1

omit hpre in
/-- Both programs keep the same points. -/
theorem same_kept : Cert.ReferenceIdeal.Terms.t6 (launchContents m' c) = kept m c := by
  have e0 : (launchContents m' c (Proc.devRef .tc Cert.ReferenceIdeal.main_arg0) : S10000x3.Idx → EReal) = m (c, Proc.devRef .tc main_arg0) := h0
  have e1 : (launchContents m' c (Proc.devRef .tc Cert.ReferenceIdeal.main_arg1) : S5000.Idx → BitVec 32) = m (c, Proc.devRef .tc main_arg1) := h1
  exact (keep_reference _).trans ((congrArg₂ keep e0 e1).trans (keep_kept m c).symm)

/-- The reference's points are the real points. -/
theorem reference_points (j : Fin 5000) (x : Fin 3) : Cert.ReferenceIdeal.Terms.t6 (launchContents m' c) (ix2 j x) = (points m c j.val x : EReal) :=
  (congrFun (same_kept m c m' h0 h1) _).trans (kept_points m c hpre j x)

/-- Both programs end with the same edge list. -/
theorem same_pairs : Cert.ReferenceIdeal.Terms.pairs (launchContents m' c) =
    (Pipeline.afterTail₀ cfgs (dats m) 0 (V0 m) [hostOps1] c main_v20 : S2x500000.Idx → BitVec 32) := by
  funext i
  obtain ⟨a, e, rfl⟩ : ∃ (a : Fin 2) (e : Fin 500000), i = ix2 a e := ⟨i 0, i 1, eq_ix2 i⟩
  have h6 := reference_points m c hpre m' h0 h1
  have hk := kept_points m c hpre
  have hP := points_within m c hpre
  match a with
  | 0 => exact ((Cert.ReferenceIdeal.Terms.read_first _ e).trans (Cert.ReferenceIdeal.Terms.ends_first _ h6 e)).trans (final_first m c hP hk e).symm
  | 1 => exact ((Cert.ReferenceIdeal.Terms.read_second _ e).trans (Cert.ReferenceIdeal.Terms.ends_second _ h6 e)).trans (final_second m c hP hk e).symm

/-- Both programs end with the same attributes. -/
theorem same_attr : Cert.ReferenceIdeal.Terms.bells (launchContents m' c) =
    (Pipeline.afterTail₀ cfgs (dats m) 0 (V0 m) [hostOps1] c main_v24 : S500000x5.Idx → EReal) := by
  funext i
  obtain ⟨e, k, rfl⟩ : ∃ (e : Fin 500000) (k : Fin 5), i = ix2 e k := ⟨i 0, i 1, eq_ix2 i⟩
  exact (Cert.ReferenceIdeal.Terms.attributes _ (reference_points m c hpre m' h0 h1) e k).trans
    (final_attr m c (points_within m c hpre) (kept_points m c hpre) e k).symm

end Values

/-- Over the reals the kernel's three results are the reference's. -/
theorem same_results : Cert.algebraic_KernelIdeal_ReferenceIdeal_pre_in_range := by
  intro m g m' g' hpre hargs
  refine ⟨fun c => Pipeline.afterTail₀ Cert.KernelIdeal.cfgs (Cert.KernelIdeal.Run.dats m) 0 (Cert.KernelIdeal.Gen.V0 m) [Cert.KernelIdeal.Gen.hostOps1] c Cert.KernelIdeal.main_v6,
    fun c => Pipeline.afterTail₀ Cert.KernelIdeal.cfgs (Cert.KernelIdeal.Run.dats m) 0 (Cert.KernelIdeal.Gen.V0 m) [Cert.KernelIdeal.Gen.hostOps1] c Cert.KernelIdeal.main_v20,
    fun c => Pipeline.afterTail₀ Cert.KernelIdeal.cfgs (Cert.KernelIdeal.Run.dats m) 0 (Cert.KernelIdeal.Gen.V0 m) [Cert.KernelIdeal.Gen.hostOps1] c Cert.KernelIdeal.main_v24, ?_, ?_⟩
  · refine (θ_run Cert.KernelIdeal.defs _ _).mono (fun r h c => ?_)
      (θ_run_and (Cert.KernelIdeal.Run.run m g) (Cert.KernelIdeal.Run.frame m g))
    exact ⟨(h.1 c).2 Cert.KernelIdeal.main_v6 (Pipeline.mem_restRefs_of Cert.KernelIdeal.main_v6 (by decide) (by decide)),
      (h.1 c).2 Cert.KernelIdeal.main_v20 (Pipeline.mem_restRefs_of Cert.KernelIdeal.main_v20 (by decide) (by decide)),
      (h.1 c).2 Cert.KernelIdeal.main_v24 (Pipeline.mem_restRefs_of Cert.KernelIdeal.main_v24 (by decide) (by decide)),
      (h.2.1 c).1, (h.2.1 c).2⟩
  · refine (θ_run Cert.ReferenceIdeal.defs _ _).mono (fun r h c => ?_) (Cert.ReferenceIdeal.Terms.run m' g')
    obtain ⟨h0, h1⟩ := hargs c
    exact ⟨(h c).1.trans ((same_kept m c m' h0 h1).trans (Cert.KernelIdeal.Run.final_kept m c).symm),
      (h c).2.1.trans (same_pairs m c (hpre c) m' h0 h1),
      (h c).2.2.1.trans (same_attr m c (hpre c) m' h0 h1),
      (h c).2.2.2.1, (h c).2.2.2.2⟩

/-- The certificate's claim. -/
theorem claim : Cert.Claim := ⟨Cert.Kernel.Gen.facts, Cert.KernelIdeal.Gen.facts, Cert.ReferenceIdeal.Gen.facts, Cert.Pre_in_range.Gen.facts,
  frame_kernel, frame_ideal, frame_ideal_in_range, frame_reference, frame_reference_in_range, trivial, same_results⟩

end Cert.Proof

end
